-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4 : Shape := ⟨1, ![4]⟩
abbrev S_ : Shape := ⟨0, ![]⟩
abbrev S1 : Shape := ⟨1, ![1]⟩
abbrev S64x256 : Shape := ⟨2, ![64, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_7 : BitVec 32 := 1#32
  let v16 : BitVec 32 := Scalar.muli v9 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_12 : BitVec 32 := 1#32
  let v22 : BitVec 32 := Scalar.muli v10 c1_i32_12
  let v23 : BitVec 32 := Scalar.addi v21 v22
  v23.toNat
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v29 : BitVec 32 := Scalar.muli v2 c8_i32_19
  let v30 : BitVec 32 := Scalar.addi c0_i32_20 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v31 : BitVec 32 := Scalar.muli v5 c4_i32_21
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_22 : BitVec 32 := 1#32
  let v33 : BitVec 32 := Scalar.muli v9 c1_i32_22
  let v34 : BitVec 32 := Scalar.addi v32 v33
  v34.toNat
def k0_dev4 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v41 : BitVec 32 := Scalar.muli v2 c8_i32_29
  let v42 : BitVec 32 := Scalar.addi c0_i32_30 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v43 : BitVec 32 := Scalar.muli v5 c4_i32_31
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_32 : BitVec 32 := 1#32
  let v45 : BitVec 32 := Scalar.muli v9 c1_i32_32
  let v46 : BitVec 32 := Scalar.addi v44 v45
  v46.toNat
def k0_dev5 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v53 : BitVec 32 := Scalar.muli v2 c8_i32_38
  let v54 : BitVec 32 := Scalar.addi c0_i32_39 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v55 : BitVec 32 := Scalar.muli v5 c4_i32_40
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_41 : BitVec 32 := 1#32
  let v57 : BitVec 32 := Scalar.muli v9 c1_i32_41
  let v58 : BitVec 32 := Scalar.addi v56 v57
  v58.toNat
def k0_dev6 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v65 : BitVec 32 := Scalar.muli v2 c8_i32_46
  let v66 : BitVec 32 := Scalar.addi c0_i32_47 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v67 : BitVec 32 := Scalar.muli v5 c4_i32_48
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_49 : BitVec 32 := 1#32
  let v69 : BitVec 32 := Scalar.muli v9 c1_i32_49
  let v70 : BitVec 32 := Scalar.addi v68 v69
  v70.toNat
def k0_dev7 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v97 : BitVec 32 := Scalar.muli v2 c8_i32_78
  let v98 : BitVec 32 := Scalar.addi c0_i32_79 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v99 : BitVec 32 := Scalar.muli v5 c4_i32_80
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_81 : BitVec 32 := 1#32
  let v101 : BitVec 32 := Scalar.muli v10 c1_i32_81
  let v102 : BitVec 32 := Scalar.addi v100 v101
  v102.toNat
def k0_dev8 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v129 : BitVec 32 := Scalar.muli v2 c8_i32_110
  let v130 : BitVec 32 := Scalar.addi c0_i32_111 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v131 : BitVec 32 := Scalar.muli v5 c4_i32_112
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_113 : BitVec 32 := 1#32
  let v133 : BitVec 32 := Scalar.muli v10 c1_i32_113
  let v134 : BitVec 32 := Scalar.addi v132 v133
  v134.toNat
def k0_dev9 (d0 : Dev nD) : Nat :=
  let c0_i32_143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_142 : BitVec 32 := 8#32
  let v161 : BitVec 32 := Scalar.muli v2 c8_i32_142
  let v162 : BitVec 32 := Scalar.addi c0_i32_143 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v163 : BitVec 32 := Scalar.muli v5 c4_i32_144
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_145 : BitVec 32 := 1#32
  let v165 : BitVec 32 := Scalar.muli v10 c1_i32_145
  let v166 : BitVec 32 := Scalar.addi v164 v165
  v166.toNat
def k0_dev10 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v193 : BitVec 32 := Scalar.muli v2 c8_i32_174
  let v194 : BitVec 32 := Scalar.addi c0_i32_175 v193
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v195 : BitVec 32 := Scalar.muli v5 c4_i32_176
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.xori v8 c2_i32_3
  let c1_i32_177 : BitVec 32 := 1#32
  let v197 : BitVec 32 := Scalar.muli v10 c1_i32_177
  let v198 : BitVec 32 := Scalar.addi v196 v197
  v198.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 7
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S4x256x256, .bf16⟩
  | .hbm, ⟨2, _⟩ => ⟨S4x256x256, .f32⟩
  | .hbm, ⟨3, _⟩ => ⟨S_, .f32⟩
  | .hbm, ⟨4, _⟩ => ⟨S256x256, .f32⟩
  | .hbm, ⟨5, _⟩ => ⟨S256x256, .bf16⟩
  | .hbm, ⟨6, _⟩ => ⟨S256x256, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Peers.lean ====
/-
# The exchange: who talks to whom, on which semaphores, over which rows

The kernel is an all-reduce over groups of four devices by recursive doubling. In exchange 0 a device swaps its
block with the device whose number differs in the lowest bit; in exchange 1 it swaps the pairwise sum with the
device whose number differs in the next bit. Each exchange moves the 256 rows as four chunks of 64 rows, every
chunk on a send semaphore and a receive semaphore of its own. This module names the peers, the chunks, the
semaphores, and the device numbers the kernel computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe

/-! ## Peers -/

/-- The device that device `c` swaps with in exchange `p`: its number with bit `p` flipped. -/
def peer (p : Fin 2) (c : Dev nD) : Dev nD :=
  ⟨c.val ^^^ (p.val + 1), Nat.xor_lt_two_pow (n := 4) c.isLt (by have := p.isLt; omega)⟩

/-- Swapping is mutual: the peer of a device's peer is the device. -/
theorem peer_peer (p : Fin 2) (c : Dev nD) : peer p (peer p c) = c := by
  revert p c; decide

/-- The devices paired off in exchange `p`, as a permutation. -/
def swap (p : Fin 2) : Dev nD ≃ Dev nD := ⟨peer p, peer p, peer_peer p, peer_peer p⟩

/-- A device is `c`'s peer exactly when `c` is its peer. -/
theorem eq_peer_comm {p : Fin 2} {c d : Dev nD} : peer p d = c ↔ d = peer p c :=
  ⟨fun h => by rw [← h, peer_peer], fun h => by rw [h, peer_peer]⟩

/-! The device numbers the kernel computes from its own: one for each signal and each remote copy. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 1 c := by revert c; decide +kernel

/-! ## Buffers -/

/-- The staged input block, the staged output, the buffer copied from, and the buffer exchange `p` lands in. -/
abbrev xM : Memref sig .tc .vmem S256x256 .bf16 := Memref.whole cc0_stg0_0
abbrev oM : Memref sig .tc .vmem S256x256 .f32 := Memref.whole cc0_stg1_0
abbrev sM : Memref sig .tc .vmem S256x256 .bf16 := Memref.whole cc0_scratch0
def rM : Fin 2 → Memref sig .tc .vmem S256x256 .bf16
  | 0 => Memref.whole cc0_scratch1
  | 1 => Memref.whole cc0_scratch2

/-! ## Chunks of 64 rows -/

/-- The four chunks lie inside the 256 rows. -/
theorem inbChunk (k : Fin 4) : ∀ a, (![64 * k.val, 0] : Fin 2 → ℕ) a + S64x256.size a ≤ S256x256.size a := by
  revert k; decide

/-- Chunk `k`: rows `64 k` up to `64 k + 64`, all columns. -/
def chunkRect (k : Fin 4) : Rect S256x256 := Rect.unit (s := S256x256) ![64 * k.val, 0] S64x256.size (inbChunk k)

/-- A rectangle of 64 rows at offset `64 k` is chunk `k`, however its offset is spelt. -/
theorem rect_eq_chunk {o : ℕ} {k : Fin 4} (ho : o = 64 * k.val)
    (h : ∀ a, (![o, 0] : Fin 2 → ℕ) a + S64x256.size a ≤ S256x256.size a) :
    Rect.unit (s := S256x256) ![o, 0] S64x256.size h = chunkRect k := by
  subst ho; rfl

theorem chunk_stride (k : Fin 4) (a) : (chunkRect k).stride a = 1 := rfl

/-- Different chunks share no element, -/
theorem chunk_disjoint (k k' : Fin 4) (h : k ≠ k') : Disjoint (chunkRect k).set (chunkRect k').set :=
  Ring.lead_disjoint (s := S256x256) (0 : Fin 2) 64 (fun k : Fin 4 => ![64 * k.val, 0]) S64x256.size inbChunk
    (fun _ => rfl) rfl k k' h

/-- and together they are the whole buffer. -/
theorem chunk_cover : (Finset.univ : Finset (Fin 4)).biUnion (fun k => (chunkRect k).set) = Finset.univ :=
  Ring.lead_cover (s := S256x256) (0 : Fin 2) 64 (fun k : Fin 4 => ![64 * k.val, 0]) S64x256.size inbChunk
    (fun _ => rfl) (fun b a ha => by fin_cases a <;> first | exact absurd rfl ha | rfl) rfl
    (fun a ha => by fin_cases a <;> first | exact absurd rfl ha | rfl) rfl

/-! ## Semaphores -/

/-- The barrier semaphore the devices meet on before any copy, and the semaphores of chunk `k` in exchange `p`. -/
abbrev barS : Sem sig := (SemArray.scalar (sig.barrier 0 rfl) : Sems sig S_).sem
def sendS (p : Fin 2) (k : Fin 4) : DmaSem sig := ⟨2 + 8 * p.val + k.val, by have := p.isLt; have := k.isLt; show _ < 18; omega⟩
def recvS (p : Fin 2) (k : Fin 4) : DmaSem sig := ⟨6 + 8 * p.val + k.val, by have := p.isLt; have := k.isLt; show _ < 18; omega⟩

/-- An exchange and a chunk: what names a copy. -/
abbrev XI : Type := Fin 2 × Fin 4

/-- A kernel semaphore: the send (left) or the receive (right) semaphore of a copy. -/
abbrev osem : XI ⊕ XI → SemLoc sig
  | .inl x => .dma (sendS x.1 x.2)
  | .inr x => .dma (recvS x.1 x.2)

/-- All the semaphores of the exchange: the barrier semaphore, and the kernel's own. -/
abbrev csem : Unit ⊕ (XI ⊕ XI) → SemLoc sig
  | .inl _ => .reg barS
  | .inr j => osem j

theorem csem_injective : Function.Injective csem := by decide +kernel

abbrev CI : Type := Unit ⊕ (XI ⊕ XI)

/-- The semaphore `csem j` of device `c`. -/
abbrev kcell (cj : Dev nD × CI) : GSem nD τ sig := ((cj.1 : Thread nD τ), csem cj.2)
abbrev barCell (c : Dev nD) : GSem nD τ sig := ((c : Thread nD τ), .reg barS)
abbrev sendCell (p : Fin 2) (k : Fin 4) (c : Dev nD) : GSem nD τ sig := ((c : Thread nD τ), .dma (sendS p k))
abbrev recvCell (p : Fin 2) (k : Fin 4) (c : Dev nD) : GSem nD τ sig := ((c : Thread nD τ), .dma (recvS p k))

theorem kcell_injective : Function.Injective kcell := by
  rintro ⟨c, j⟩ ⟨c', j'⟩ h
  have h1 : c = c' := by have := congrArg (fun g : GSem nD τ sig => g.1.1) h; exact this
  have h2 : csem j = csem j' := congrArg Prod.snd h
  rw [h1, csem_injective h2]

/-- Which copy a kernel semaphore belongs to, read off its number. -/
def copyOf (q : DmaSem sig) : XI ⊕ XI :=
  if (q.val - 2) % 8 < 4 then .inl (⟨(q.val - 2) / 8 % 2, Nat.mod_lt _ (by decide)⟩, ⟨(q.val - 2) % 4, Nat.mod_lt _ (by decide)⟩)
  else .inr (⟨(q.val - 2) / 8 % 2, Nat.mod_lt _ (by decide)⟩, ⟨(q.val - 2) % 4, Nat.mod_lt _ (by decide)⟩)

theorem copyOf_send (p : Fin 2) (k : Fin 4) : copyOf (sendS p k) = .inl (p, k) := by revert p k; decide +kernel
theorem copyOf_recv (p : Fin 2) (k : Fin 4) : copyOf (recvS p k) = .inr (p, k) := by revert p k; decide +kernel

/-- The units one chunk's copy adds to its semaphores. -/
abbrev N : ℕ := (sM.slice (chunkRect 0) (chunk_stride 0)).view.dmaCredit
theorem N_pos : 0 < N := View.dmaCredit_pos _ (by decide)

end Cert.Exchange

end
-- ==== Proof.Schedule.lean ====
/-
# The contents exchanged and the duties on the semaphores

What a device holds at each stage, what every signal and every landing hands over, and the accounting that goes
with it: the one round of duties on each semaphore, what each device owes at launch, and the order in which waits
may wait for one another.
-/
module

public import proofs.«01_k».proof.Proof.Peers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's copy of the rounds algebra (duties numbered 0 and 1), beside the staging pipeline's. -/
abbrev UX : Type := URounds (GSem nD τ sig) (Fin 2)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of the input, as its staging buffer holds it. -/
def xstg (c : Dev nD) : Vec F S256x256 .bf16 :=
  (win0_0.blk (0 : Fin 1)).view.read (Elt F) ((s₀ m ρ).mem ((c : Thread nD τ).loc main_arg0))

/-- What device `c` sends in exchange `p`: its own block, then the sum of its block and its first peer's. -/
def sent : Fin 2 → Dev nD → Vec F S256x256 .bf16
  | 0, c => xstg m ρ c
  | 1, c => addf (F := F) (φ := .bf16) (xstg m ρ c) (xstg m ρ (peer 0 c))

/-- Device `c`'s result: the pairwise sum it sent in exchange 1 plus the one it received, added in f32. -/
def outAt (c : Dev nD) : Vec F S256x256 .f32 :=
  addf (F := F) (φ := .f32) (extf .f32 (sent m ρ 1 c) bitsLt_bf16_f32) (extf .f32 (sent m ρ 1 (peer 1 c)) bitsLt_bf16_f32)

/-- Chunk `k` of the 256x256 buffer `M` of device `c`, owned outright and holding chunk `k` of `G`. -/
def chunkPts (c : Dev nD) {e : EltTy} (M : Memref sig .tc .vmem S256x256 e) (k : Fin 4) (G : Vec F S256x256 e) : sProp 𝕄 :=
  owns (c : Thread nD τ) (M.slice (chunkRect k) (chunk_stride k)) fullShare (fun j => G ((chunkRect k).emb j))

omit [FloatOps F] in
instance chunkPts_storable (c : Dev nD) {e : EltTy} (M : Memref sig .tc .vmem S256x256 e) (k : Fin 4) (G : Vec F S256x256 e) :
    BI.Storable (upEmb : UEmb _ 𝕄) (chunkPts (F := F) c M k G) := by unfold chunkPts; infer_instance

omit [FloatOps F] in
/-- Owning a whole 256x256 buffer is owning its four chunks. -/
theorem chunks_of_whole (c : Dev nD) {e : EltTy} (M : Memref sig .tc .vmem S256x256 e) (G : Vec F S256x256 e) :
    (owns (c : Thread nD τ) M fullShare G : sProp 𝕄)
      ⊢ iprop(chunkPts c M 0 G ∗ chunkPts c M 1 G ∗ chunkPts c M 2 G ∗ chunkPts c M 3 G) := by
  refine (owns_rects (c : Thread nD τ) M fullShare chunkRect chunk_stride chunk_disjoint chunk_cover G).trans (Entails.of_eq ?_)
  rw [bigSep_univ_eq_bigSepL [0, 1, 2, 3] (by decide) (by decide)]
  rfl

/-- Four chunks of one array make up the whole buffer holding it. -/
theorem whole_of_chunks (c : Dev nD) {e : EltTy} (M : Memref sig .tc .vmem S256x256 e) (G : Vec F S256x256 e) :
    iprop(chunkPts c M 0 G ∗ chunkPts c M 1 G ∗ chunkPts c M 2 G ∗ chunkPts c M 3 G)
      ⊢ (owns (c : Thread nD τ) M fullShare G : sProp 𝕄) := by
  refine Entails.trans (Entails.of_eq ?_)
    (owns_of_rects (c : Thread nD τ) M fullShare chunkRect chunk_stride chunk_disjoint chunk_cover G)
  rw [bigSep_univ_eq_bigSepL [0, 1, 2, 3] (by decide) (by decide)]
  rfl

/-! ## Payloads and duties -/

/-- What `c`'s peer in exchange `p` hands `c` when it signals the barrier: its landing buffer of that exchange. -/
def barPay (p : Fin 2) (c : Dev nD) : sProp 𝕄 :=
  iprop(∃ G : Vec F S256x256 .bf16, owns (peer p c : Thread nD τ) (rM p) fullShare G)

/-- What comes back to `c` once a copy has left: the chunk copied from. -/
def sendPay (p : Fin 2) (k : Fin 4) (c : Dev nD) : sProp 𝕄 := chunkPts c sM k (sent m ρ p c)

/-- What a copy from `c`'s peer leaves with `c`: the chunk of the landing buffer, holding what the peer sent. -/
def recvPay (p : Fin 2) (k : Fin 4) (c : Dev nD) : sProp 𝕄 := chunkPts c (rM p) k (sent m ρ p (peer p c))

def copyPay (c : Dev nD) : XI ⊕ XI → sProp 𝕄
  | .inl x => sendPay m ρ x.1 x.2 c
  | .inr x => recvPay m ρ x.1 x.2 c

omit [FloatOps F] in
instance barPay_storable (p : Fin 2) (c : Dev nD) : BI.Storable (upEmb : UEmb _ 𝕄) (barPay (F := F) p c) := by
  unfold barPay; infer_instance
instance copyPay_storable (c : Dev nD) (j : XI ⊕ XI) : BI.Storable (upEmb : UEmb _ 𝕄) (copyPay m ρ c j) := by
  rcases j with x | x
  · show BI.Storable _ (sendPay m ρ x.1 x.2 c); unfold sendPay; infer_instance
  · show BI.Storable _ (recvPay m ρ x.1 x.2 c); unfold recvPay; infer_instance

/-- Every semaphore has one round. A barrier semaphore has a duty of one unit per exchange, paid by the peer of that
    exchange; a copy's semaphore has the one duty 0, of the copy's units. -/
def rd : Rounds.Schedule (GSem nD τ sig) (Fin 2) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with | .reg _ => barPay d g.1.1 | .dma q => copyPay m ρ g.1.1 (copyOf q)
  amount_pos g _ _ _ := by
    rcases g with ⟨_, _ | _⟩
    · exact Nat.one_pos
    · exact N_pos

instance rd_payload_storable (g : GSem nD τ sig) (r : ℕ) (d : Fin 2) :
    BI.Storable (upEmb : UEmb _ 𝕄) ((rd m ρ).payload g r d) := by
  rcases g with ⟨t, _ | q⟩
  · show BI.Storable _ (barPay d t.1); infer_instance
  · show BI.Storable _ (copyPay m ρ t.1 (copyOf q)); infer_instance

section Sched
variable (p : Fin 2) (k : Fin 4) (c : Dev nD) (d : Fin 2)

theorem duties_bar : (rd m ρ).duties (barCell c) 0 = Finset.univ := by
  dsimp only [rd]; exact if_pos ⟨rfl, rfl⟩
theorem duties_send : (rd m ρ).duties (sendCell p k c) 0 = {0} := by
  dsimp only [rd]; rw [if_pos ⟨rfl, rfl⟩]; exact if_pos (by show 2 ≤ 2 + 8 * p.val + k.val; omega)
theorem duties_recv : (rd m ρ).duties (recvCell p k c) 0 = {0} := by
  dsimp only [rd]; rw [if_pos ⟨rfl, rfl⟩]; exact if_pos (by show 2 ≤ 6 + 8 * p.val + k.val; omega)
theorem duties_later (g : GSem nD τ sig) : ∀ r, 1 ≤ r → (rd m ρ).duties g r = ∅ :=
  fun r hr => if_neg fun h => by omega

theorem amount_bar : (rd m ρ).amount (barCell c) 0 d = 1 := rfl
theorem amount_send : (rd m ρ).amount (sendCell p k c) 0 d = N := rfl
theorem amount_recv : (rd m ρ).amount (recvCell p k c) 0 d = N := rfl

theorem expect_bar : (rd m ρ).expect (barCell c) 0 = 2 := by
  unfold Schedule.expect Schedule.amountOf
  rw [duties_bar, Finset.sum_congr rfl fun d _ => amount_bar m ρ c d]; rfl
theorem expect_send : (rd m ρ).expect (sendCell p k c) 0 = N := by
  unfold Schedule.expect Schedule.amountOf; rw [duties_send, Finset.sum_singleton, amount_send]
theorem expect_recv : (rd m ρ).expect (recvCell p k c) 0 = N := by
  unfold Schedule.expect Schedule.amountOf; rw [duties_recv, Finset.sum_singleton, amount_recv]

theorem payload_bar : (rd m ρ).payload (barCell c) 0 d = barPay d c := rfl
theorem payload_send : (rd m ρ).payload (sendCell p k c) 0 d = sendPay m ρ p k c := by
  show copyPay m ρ c (copyOf (sendS p k)) = _; rw [copyOf_send]; rfl
theorem payload_recv : (rd m ρ).payload (recvCell p k c) 0 d = recvPay m ρ p k c := by
  show copyPay m ρ c (copyOf (recvS p k)) = _; rw [copyOf_recv]; rfl

/-- The barrier's round hands over both peers' landing buffers; -/
theorem rest_bar : bigSep ((rd m ρ).duties (barCell c) 0 \ ∅) (fun d => (rd m ρ).payload (barCell c) 0 d)
    = iprop(barPay 0 c ∗ barPay 1 c) := by
  rw [Finset.sdiff_empty, duties_bar, bigSep_univ_eq_bigSepL [0, 1] (by decide) (by decide)]; rfl
/-- a send semaphore's, the chunk copied from; -/
theorem rest_send : bigSep ((rd m ρ).duties (sendCell p k c) 0 \ ∅) (fun d => (rd m ρ).payload (sendCell p k c) 0 d)
    = sendPay m ρ p k c := by
  rw [Finset.sdiff_empty, duties_send, bigSep_singleton, payload_send]
/-- a receive semaphore's, the chunk landed. -/
theorem rest_recv : bigSep ((rd m ρ).duties (recvCell p k c) 0 \ ∅) (fun d => (rd m ρ).payload (recvCell p k c) 0 d)
    = recvPay m ρ p k c := by
  rw [Finset.sdiff_empty, duties_recv, bigSep_singleton, payload_recv]

end Sched

/-! ## What each device owes; the levels -/

/-- A payment a device makes: the signal to its peer's barrier in an exchange, or a copy to its peer. -/
abbrev Debt : Type := Fin 2 ⊕ XI

def debtCell (c : Dev nD) : Debt → GSem nD τ sig
  | .inl p => barCell (peer p c)
  | .inr x => recvCell x.1 x.2 (peer x.1 c)
def debtAmount : Debt → ℕ
  | .inl _ => 1
  | .inr _ => N

/-- What device `c` owes while the payments `l` are still to be made. -/
def owed (c : Dev nD) : List Debt → CellTallies nD τ sig Unit
  | [] => 0
  | d :: l => owed c l + tallyAt (debtCell c d) () (debtAmount d)

/-- The chunks of exchange `p` from `k` on, and all payments in the order the kernel makes them. -/
abbrev gatherDebts : List Debt := [.inr (1, 0), .inr (1, 1), .inr (1, 2), .inr (1, 3)]
abbrev copyDebts : List Debt := [.inr (0, 0), .inr (0, 1), .inr (0, 2), .inr (0, 3)] ++ gatherDebts
abbrev allDebts : List Debt := [.inl 0, .inl 1] ++ copyDebts

def O₀ (c : Dev nD) : CellTallies nD τ sig Unit := owed c allDebts

def L (g : GSem nD τ sig) : Finset Unit := if g.1.2 = .tc then {()} else ∅

/-- The level of a copy's semaphore: a receive in exchange `p` at `2 + p`; sends at 0. -/
def copyLv : XI ⊕ XI → ℕ
  | .inl _ => 0
  | .inr x => 2 + x.1.val
/-- The level of a semaphore: the barrier at 1, receives above it, staging and sends below. -/
def lv (g : GSem nD τ sig) (_ : Unit) : ℕ := match g.2 with
  | .reg _ => 1
  | .dma q => if 2 ≤ q.val then copyLv (copyOf q) else 0

def debtLv : Debt → ℕ
  | .inl _ => 1
  | .inr x => 2 + x.1.val

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (p : Fin 2) (k : Fin 4) (c : Dev nD) : lv (sendCell p k c) () = 0 :=
  (if_pos (by show 2 ≤ 2 + 8 * p.val + k.val; omega)).trans (by rw [copyOf_send]; rfl)
theorem lv_recv (p : Fin 2) (k : Fin 4) (c : Dev nD) : lv (recvCell p k c) () = 2 + p.val :=
  (if_pos (by show 2 ≤ 6 + 8 * p.val + k.val; omega)).trans (by rw [copyOf_recv]; rfl)
theorem lv_debt (c : Dev nD) (d : Debt) : lv (debtCell c d) () = debtLv d := by
  rcases d with p | x
  · rfl
  · exact lv_recv x.1 x.2 _

/-- A semaphore owed something is the semaphore of an outstanding payment. -/
theorem owed_pos {c : Dev nD} {g : GSem nD τ sig} {u : Unit} : ∀ {l : List Debt}, 0 < owed c l g u → ∃ d ∈ l, g = debtCell c d
  | [], h => absurd h (Nat.lt_irrefl 0)
  | d :: l, h => by
    by_cases hg : g = debtCell c d
    · exact ⟨d, List.mem_cons_self, hg⟩
    · have h' : 0 < owed c l g u := by
        unfold owed at h
        rw [Pi.add_apply, Finsupp.add_apply, tallyAt_apply, if_neg (fun e => hg e.1), Nat.add_zero] at h
        exact h
      obtain ⟨d', hd', e⟩ := owed_pos h'
      exact ⟨d', List.mem_cons_of_mem _ hd', e⟩

/-- A device may wait on a semaphore below every payment it still owes. -/
theorem mayWait (c : Dev nD) (sm : SemLoc sig) (l : List Debt) (n : ℕ) (hn : lv ((c : Thread nD τ), sm) () = n)
    (hl : ∀ d ∈ l, n < debtLv d) : (levAts L lv : sProp 𝕄) ⊢ MayWait (c : Thread nD τ) sm () (owed c l) :=
  MayOwe.of_cut (L := L) (lev := lv) n
    (fun x hx => by rw [Finset.mem_singleton.mp hx, L_tc]; exact Finset.mem_singleton_self _)
    (fun g u hg => by
      obtain ⟨d, -, rfl⟩ := owed_pos hg
      rcases d with p | x
      · exact Finset.mem_singleton_self _
      · exact Finset.mem_singleton_self _)
    (fun x hx => by rw [Finset.mem_singleton.mp hx]; exact hn.le)
    (fun g u hg => by
      obtain ⟨d, hd, rfl⟩ := owed_pos hg
      cases u
      rw [lv_debt]; exact hl d hd)

end Cert.Exchange

end
-- ==== Proof.Steps.lean ====
/-
# The kernel's steps on one chunk

Each theorem is about one stretch of the kernel at an arbitrary chunk: a remote copy, the two waits of a copy, a
load, a store, and the two stretches that the kernel repeats for each of its four chunks.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev bodyWp (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## What the devices share and what each holds -/

/-- The invariants of all the semaphores, under the names `K`, and that all have reached their round. -/
def records (K : Dev nD × CI → ℕ) : sProp 𝕄 :=
  iprop((bigSep Finset.univ fun x : Dev nD × CI => cellInv ER (rd m ρ) (K x) (kcell x))
    ∗ bigSep Finset.univ fun x : Dev nD × CI => reached ER (kcell x) 0)

instance records_persistent (K : Dev nD × CI → ℕ) : BI.Persistent (records m ρ K) := by unfold records; infer_instance

theorem inv_at (K : Dev nD × CI → ℕ) (x : Dev nD × CI) : records m ρ K ⊢ cellInv ER (rd m ρ) (K x) (kcell x) := by
  unfold records
  exact Entails.trans (by iintro ⟨H, -⟩; iexact H) (bigSep_elim (Φ := fun x : Dev nD × CI => cellInv ER (rd m ρ) (K x) (kcell x)) (Finset.mem_univ x))
theorem reached_at (K : Dev nD × CI → ℕ) (x : Dev nD × CI) : records m ρ K ⊢ reached ER (kcell x) 0 := by
  unfold records
  exact Entails.trans (by iintro ⟨-, H⟩; iexact H) (bigSep_elim (Φ := fun x : Dev nD × CI => reached ER (kcell x) 0) (Finset.mem_univ x))

/-- The copy `x` not yet started: `c`'s places at its two semaphores, the right to pay its own send semaphore and its
    peer's receive semaphore, and the units its own receive semaphore will get. -/
def ready (x : XI) (c : Dev nD) : sProp 𝕄 :=
  iprop((atPos ER (sendCell x.1 x.2 c) 0 ∅ 0 ∗ atPos ER (recvCell x.1 x.2 c) 0 ∅ 0)
    ∗ (dutyTok ER (sendCell x.1 x.2 c) 0 0 ∗ dutyTok ER (recvCell x.1 x.2 (peer x.1 c)) 0 0)
    ∗ cred (tallyAt (recvCell x.1 x.2 c) () N))

/-- The copy `x` started: the places, and the units of both semaphores. -/
def flying (x : XI) (c : Dev nD) : sProp 𝕄 :=
  iprop((atPos ER (sendCell x.1 x.2 c) 0 ∅ 0 ∗ atPos ER (recvCell x.1 x.2 c) 0 ∅ 0)
    ∗ cred (tallyAt (sendCell x.1 x.2 c) () N) ∗ cred (tallyAt (recvCell x.1 x.2 c) () N))

/-- The copy `x` waited for: both semaphores are back at zero. -/
def finished (x : XI) (c : Dev nD) : sProp 𝕄 :=
  iprop(semVal (sendCell x.1 x.2 c) 0 ∗ semVal (recvCell x.1 x.2 c) 0)

/-- Device `c` still owes the payments `l`. -/
def owing (c : Dev nD) (l : List Debt) : sProp 𝕄 := iprop(∃ W : Waits sig Unit, owes (c : Thread nD τ) (owed c l) W)

/-- A chunk held with unknown contents. -/
def chunkAny (c : Dev nD) {e : EltTy} (M : Memref sig .tc .vmem S256x256 e) (k : Fin 4) : sProp 𝕄 :=
  iprop(∃ G : Vec F S256x256 e, chunkPts c M k G)

/-! ## Loads and stores -/

/-- A load of chunk `k` reads its contents and leaves them. -/
theorem wp_load_chunk {α : Type} (c : Dev nD) {e : EltTy} (M : Memref sig .tc .vmem S256x256 e) (k : Fin 4) {o : ℕ} (ho : o = 64 * k.val)
    {h : ∀ a, (![o, 0] : Fin 2 → ℕ) a + S64x256.size a ≤ S256x256.size a}
    {hl : M.view.LoadsAt (Rect.unit (s := S256x256) ![o, 0] S64x256.size h).toLoadRect}
    {kont : Vec F S64x256 e → Prog (TpuEff nD τ sig (Elt F) Λ₀ .tc) α} {Q : α → sProp 𝕄} (G : Vec F S256x256 e) :
    chunkPts c M k G ⊢ iprop((chunkPts c M k G -∗ bodyWp c (kont fun j => G ((chunkRect k).emb j)) Q)
      -∗ bodyWp c (.op (.load M (Rect.unit (s := S256x256) ![o, 0] S64x256.size h).toLoadRect hl) kont) Q) := by
  subst ho
  unfold chunkPts owns
  iintro ⟨%f, %hf, H⟩ Hk
  iapply (wp_load_rect 𝒱₀ (c : Thread nD τ) none Set.univ (m := M) (r := chunkRect k) (hl := hl) (k := kont) subset_rfl) $$ H
  iintro H
  rw [show (M.access (chunkRect k)).read (Elt F) f = fun j => G ((chunkRect k).emb j) from hf]
  iapply Hk
  iexists f; isplitr; · ipureintro; exact hf
  iexact H

/-- A store to chunk `k` of chunk `k` of `G'` leaves it holding that. -/
theorem wp_store_chunk {α : Type} (c : Dev nD) {e : EltTy} (M : Memref sig .tc .vmem S256x256 e) (k : Fin 4) {o : ℕ} (ho : o = 64 * k.val)
    {h : ∀ a, (![o, 0] : Fin 2 → ℕ) a + S64x256.size a ≤ S256x256.size a} {w : Vec F S64x256 e}
    {hx : (M.access (Rect.unit (s := S256x256) ![o, 0] S64x256.size h)).Stores Finset.univ}
    {hm : (Finset.univ : Finset (Rect.unit (s := S256x256) ![o, 0] S64x256.size h).shape.Idx) = Finset.univ
      ∨ ∀ a, (Rect.unit (s := S256x256) ![o, 0] S64x256.size h).stride a = 1}
    {kont : PUnit → Prog (TpuEff nD τ sig (Elt F) Λ₀ .tc) α} {Q : α → sProp 𝕄} (G' : Vec F S256x256 e)
    (hw : w = fun j => G' ((chunkRect k).emb j)) :
    chunkAny c M k ⊢ iprop((chunkPts c M k G' -∗ bodyWp c (kont ⟨⟩) Q)
      -∗ bodyWp c (.op (.store M (Rect.unit (s := S256x256) ![o, 0] S64x256.size h) w Finset.univ hx hm) kont) Q) := by
  subst ho
  unfold chunkAny chunkPts owns
  iintro ⟨%G, %f, %hf, H⟩ Hk
  iapply (wp_store 𝒱₀ (c : Thread nD τ) none Set.univ (m := M) (r := chunkRect k) (w := w) (Mk := Finset.univ) (hx := hx) (hm := hm)
    (k := kont) (S := (M.access (chunkRect k)).set) (Finset.Subset.refl _)) $$ H
  iintro H
  iapply Hk
  iexists ((M.access (chunkRect k)).write (Elt F) f w Finset.univ)
  isplitr
  · ipureintro
    exact (View.read_write_univ (v := M.access (chunkRect k)) f w).trans hw
  iexact H

/-! ## A copy started, a copy waited for -/

/-- Starting the copy of chunk `k` in exchange `p`: the chunk of what is sent and the peer's landing chunk are lent,
    one payment is made. -/
theorem wp_send_chunk {α : Type} (K : Dev nD × CI → ℕ) (p : Fin 2) (k : Fin 4) (c : Dev nD) {n : Dev nD} (hn : n = peer p c)
    {D : Memref sig .tc .vmem S256x256 .bf16} (hD : D = rM p) {o : ℕ} (ho : o = 64 * k.val)
    {h : ∀ a, (![o, 0] : Fin 2 → ℕ) a + S64x256.size a ≤ S256x256.size a}
    {hs hs' : ∀ a, (Rect.unit (s := S256x256) ![o, 0] S64x256.size h).stride a = 1}
    {qs qr : DmaSem sig} (hqs : qs = sendS p k) (hqr : qr = recvS p k)
    {hsc : (D.slice (Rect.unit (s := S256x256) ![o, 0] S64x256.size h) hs' : Memref sig (Dev.tc n : Thread nD τ).2.kind .vmem S64x256 .bf16).view.ref.isScScratch = false}
    {hsrc : (sM.slice (Rect.unit (s := S256x256) ![o, 0] S64x256.size h) hs).view.WordExact}
    {hdst : (D.slice (Rect.unit (s := S256x256) ![o, 0] S64x256.size h) hs').view.WordExact}
    {hsem : DmaTarget.Typed .vmem (.dma qr) (.remote (Dev.tc n : Thread nD τ) (D.slice (Rect.unit (s := S256x256) ![o, 0] S64x256.size h) hs' : Memref sig (Dev.tc n : Thread nD τ).2.kind .vmem S64x256 .bf16) (.dma qs) hsc)}
    {kont : PUnit → Prog (TpuEff nD τ sig (Elt F) Λ₀ .tc) α} {Q : α → sProp 𝕄} (l : List Debt) :
    iprop(records m ρ K ∗ ready (p, k) c ∗ chunkPts c sM k (sent m ρ p c) ∗ chunkAny (peer p c) (rM p) k ∗ owing c (.inr (p, k) :: l))
      ⊢ iprop((flying (p, k) c ∗ owing c l -∗ bodyWp c (kont ⟨⟩) Q)
        -∗ bodyWp c (.op (.enqueueDma (sM.slice (Rect.unit (s := S256x256) ![o, 0] S64x256.size h) hs)
            (.remote (Dev.tc n : Thread nD τ) (D.slice (Rect.unit (s := S256x256) ![o, 0] S64x256.size h) hs') (.dma qs) hsc) (.dma qr) hsrc hdst hsem) kont) Q) := by
  subst hn hD ho hqs hqr
  unfold ready flying owing chunkAny chunkPts owns
  iintro ⟨#HR, ⟨⟨HaS, HaR⟩, ⟨HtS, HtR⟩, HcR⟩, ⟨%fs, %hfs, Hs⟩, ⟨%G, %fd, %hfd, Hd⟩, ⟨%W, HO⟩⟩ Hk
  iapply (Rounds.wp_send_pointsTo 𝒱₀ ER (rd m ρ) (c : Thread nD τ) none (c' := (peer p c : Thread nD τ))
    (κ₁ := K (c, .inr (.inl (p, k)))) (κ₂ := K (peer p c, .inr (.inr (p, k))))
    (src := sM.slice (chunkRect k) (chunk_stride k)) (dst := (rM p).slice (chunkRect k) (chunk_stride k))
    (sS := .dma (sendS p k)) (sem := .dma (recvS p k)) (hsc := hsc) (hsrc := hsrc) (hdst := hdst) (hsem := hsem)
    (r₁ := 0) (r₂ := 0) (d₁ := 0) (d₂ := 0) (fs := fs) (fd := fd) (k := kont)
    (by rw [duties_send]; exact Finset.mem_singleton_self _) (by rw [duties_recv]; exact Finset.mem_singleton_self _)
    () () N rfl (amount_send m ρ p k c 0) (amount_recv m ρ p k (peer p c) 0) (owed c l) rfl (W := W)
    (by
      rw [payload_send]; unfold sendPay chunkPts owns
      iintro H; iexists fs; isplitr; · ipureintro; exact hfs
      iexact H)
    (by
      rw [payload_recv, recvPay, peer_peer]; unfold chunkPts owns
      iintro H; iexists _; isplitr
      rotate_left; · iexact H
      ipureintro
      exact (View.read_write_univ (v := ((rM p).slice (chunkRect k) (chunk_stride k)).view) fd _).trans hfs)) $$ [Hs Hd HO HtS HtR]
  · isplitr; · iapply (inv_at m ρ K (c, .inr (.inl (p, k)))); iexact HR
    isplitr; · iapply (inv_at m ρ K (peer p c, .inr (.inr (p, k)))); iexact HR
    isplitl [Hs]; · iexact Hs
    isplitl [Hd]; · iexact Hd
    isplitl [HO]; · iexact HO
    isplitl [HtS]; · iexact HtS
    isplitr; · iapply (reached_at m ρ K (c, .inr (.inl (p, k)))); iexact HR
    isplitl [HtR]; · iexact HtR
    iapply (reached_at m ρ K (peer p c, .inr (.inr (p, k)))); iexact HR
  iintro ⟨HcS, HO⟩
  iapply Hk
  isplitl [HaS HaR HcS HcR]
  · isplitl [HaS HaR]
    · isplitl [HaS] <;> iassumption
    isplitl [HcS] <;> iassumption
  iexists W; iexact HO

/-- The two waits of a copy, first for its departure and then for the peer's landing: the chunk sent is back, the
    peer's chunk is here, and both semaphores are at zero. -/
theorem wp_wait_chunk {α : Type} (K : Dev nD × CI → ℕ) (p : Fin 2) (k : Fin 4) (c : Dev nD)
    {qs qr : DmaSem sig} (hqs : qs = sendS p k) (hqr : qr = recvS p k)
    {a₁ b₁ a₂ b₂ : Memref sig .tc .vmem S64x256 .bf16}
    {ha₁ : a₁.view.WordExact} {hb₁ : b₁.view.WordExact} {ha₂ : a₂.view.WordExact} {hb₂ : b₂.view.WordExact}
    (hN₁ : b₁.view.dmaCredit = N) (hN₂ : b₂.view.dmaCredit = N)
    {kont : PUnit → Prog (TpuEff nD τ sig (Elt F) Λ₀ .tc) α} {Q : α → sProp 𝕄} (l : List Debt) (hl : ∀ d ∈ l, 2 + p.val < debtLv d) :
    iprop(records m ρ K ∗ levAts L lv ∗ flying (p, k) c ∗ owing c l)
      ⊢ iprop((finished (p, k) c ∗ chunkPts c sM k (sent m ρ p c) ∗ chunkPts c (rM p) k (sent m ρ p (peer p c)) ∗ owing c l -∗ bodyWp c (kont ⟨⟩) Q)
        -∗ bodyWp c (.op (.waitDma2 qs a₁ b₁ ha₁ hb₁) fun _ => .op (.waitDma2 qr a₂ b₂ ha₂ hb₂) kont) Q) := by
  subst hqs hqr
  unfold flying owing
  iintro ⟨#HR, #Hlev, ⟨⟨HaS, HaR⟩, HcS, HcR⟩, ⟨%W, HO⟩⟩ Hk
  iapply (Rounds.wp_wait_rest_token 𝒱₀ ER (rd m ρ) (c : Thread nD τ) none (κ := K (c, .inr (.inl (p, k)))) (sm := .dma (sendS p k)) (k' := N)
      (fun Kt => (wpE_waitDma2_eq 𝒱₀ (c : Thread nD τ) none Set.univ Kt).trans (by rw [hN₁])) (Set.mem_univ _) () (O := owed c l) (W := W) (R := 0) (m := 0) (T := ∅)
      (by rw [Nat.zero_add]; exact (expect_send m ρ p k c).symm)) $$ [HcS HO HaS]
  · isplitr; · iapply (inv_at m ρ K (c, .inr (.inl (p, k)))); iexact HR
    isplitl [HcS]; · iexact HcS
    isplitl [HO]; · iexact HO
    isplitr; · iapply (mayWait c (.dma (sendS p k)) l 0 (lv_send p k c) fun d hd => by have := hl d hd; omega); iexact Hlev
    iexact HaS
  iintro ⟨HO, HaS, -, Hpay⟩
  ihave HpS := (Entails.of_eq (rest_send m ρ p k c)) $$ Hpay
  iapply (Rounds.wp_wait_rest_token 𝒱₀ ER (rd m ρ) (c : Thread nD τ) none (κ := K (c, .inr (.inr (p, k)))) (sm := .dma (recvS p k)) (k' := N)
      (fun Kt => (wpE_waitDma2_eq 𝒱₀ (c : Thread nD τ) none Set.univ Kt).trans (by rw [hN₂])) (Set.mem_univ _) () (O := owed c l)
      (W := insert (.dma (sendS p k), ()) W) (R := 0) (m := 0) (T := ∅)
      (by rw [Nat.zero_add]; exact (expect_recv m ρ p k c).symm)) $$ [HcR HO HaR]
  · isplitr; · iapply (inv_at m ρ K (c, .inr (.inr (p, k)))); iexact HR
    isplitl [HcR]; · iexact HcR
    isplitl [HO]; · iexact HO
    isplitr; · iapply (mayWait c (.dma (recvS p k)) l (2 + p.val) (lv_recv p k c) hl); iexact Hlev
    iexact HaR
  iintro ⟨HO, HaR, -, Hpay⟩
  ihave HpR := (Entails.of_eq (rest_recv m ρ p k c)) $$ Hpay
  imod (Rounds.cell_close ER (rd m ρ) (Set.mem_univ (K (c, .inr (.inl (p, k))))) (fun h => h) (R := 0 + 1) (duties_later m ρ (sendCell p k c))) $$ [HaS] with HzS
  · isplitr; · iapply (inv_at m ρ K (c, .inr (.inl (p, k)))); iexact HR
    iexact HaS
  imod (Rounds.cell_close ER (rd m ρ) (Set.mem_univ (K (c, .inr (.inr (p, k))))) (fun h => h) (R := 0 + 1) (duties_later m ρ (recvCell p k c))) $$ [HaR] with HzR
  · isplitr; · iapply (inv_at m ρ K (c, .inr (.inr (p, k)))); iexact HR
    iexact HaR
  iapply Hk
  unfold finished sendPay recvPay
  isplitl [HzS HzR]
  · isplitl [HzS] <;> iassumption
  isplitl [HpS]; · iexact HpS
  isplitl [HpR]; · iexact HpR
  iexists _; iexact HO

end Cert.Exchange

end
-- ==== Proof.Stretches.lean ====
/-
# The two stretches the kernel repeats for each chunk

The reducing stretch waits for a chunk of exchange 0, adds what landed to what was sent, and starts the chunk's copy
of exchange 1. The gathering stretch waits for a chunk of exchange 1 and writes the chunk of the result.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The landing buffers by name, as the kernel's text has them. -/
abbrev r1M : Memref sig .tc .vmem S256x256 .bf16 := Memref.whole cc0_scratch1
abbrev r2M : Memref sig .tc .vmem S256x256 .bf16 := Memref.whole cc0_scratch2

/-- The reducing stretch at chunk `k`, with the payments `l` left to make after it. -/
theorem wp_reduce {α : Type} (K : Dev nD × CI → ℕ) (k : Fin 4) (c : Dev nD) {n : Dev nD} (hn : n = peer 1 c) {o : ℕ} (ho : o = 64 * k.val)
    {h : ∀ a, (![o, 0] : Fin 2 → ℕ) a + S64x256.size a ≤ S256x256.size a}
    {hs hs' : ∀ a, (Rect.unit (s := S256x256) ![o, 0] S64x256.size h).stride a = 1}
    {qs qr qs' qr' : DmaSem sig} (hqs : qs = sendS 0 k) (hqr : qr = recvS 0 k) (hqs' : qs' = sendS 1 k) (hqr' : qr' = recvS 1 k)
    {a₁ b₁ a₂ b₂ : Memref sig .tc .vmem S64x256 .bf16}
    {ha₁ : a₁.view.WordExact} {hb₁ : b₁.view.WordExact} {ha₂ : a₂.view.WordExact} {hb₂ : b₂.view.WordExact}
    (hN₁ : b₁.view.dmaCredit = N) (hN₂ : b₂.view.dmaCredit = N)
    {pay : Vec F S64x256 .bf16 → Vec F S64x256 .bf16 → Vec F S64x256 .bf16}
    (hpay : ∀ a b, pay a b = addf (F := F) (φ := .bf16) a b)
    {hl₁ hl₃ : sM.view.LoadsAt (Rect.unit (s := S256x256) ![o, 0] S64x256.size h).toLoadRect}
    {hl₂ : r1M.view.LoadsAt (Rect.unit (s := S256x256) ![o, 0] S64x256.size h).toLoadRect}
    {hx : (sM.access (Rect.unit (s := S256x256) ![o, 0] S64x256.size h)).Stores Finset.univ}
    {hm : (Finset.univ : Finset (Rect.unit (s := S256x256) ![o, 0] S64x256.size h).shape.Idx) = Finset.univ
      ∨ ∀ a, (Rect.unit (s := S256x256) ![o, 0] S64x256.size h).stride a = 1}
    {hsc : (r2M.slice (Rect.unit (s := S256x256) ![o, 0] S64x256.size h) hs' : Memref sig (Dev.tc n : Thread nD τ).2.kind .vmem S64x256 .bf16).view.ref.isScScratch = false}
    {hsrc : (sM.slice (Rect.unit (s := S256x256) ![o, 0] S64x256.size h) hs).view.WordExact}
    {hdst : (r2M.slice (Rect.unit (s := S256x256) ![o, 0] S64x256.size h) hs').view.WordExact}
    {hsem : DmaTarget.Typed .vmem (.dma qr') (.remote (Dev.tc n : Thread nD τ) (r2M.slice (Rect.unit (s := S256x256) ![o, 0] S64x256.size h) hs' : Memref sig (Dev.tc n : Thread nD τ).2.kind .vmem S64x256 .bf16) (.dma qs') hsc)}
    {kont : PUnit → Prog (TpuEff nD τ sig (Elt F) Λ₀ .tc) α} {Q : α → sProp 𝕄} (l : List Debt)
    (hl : ∀ d ∈ (.inr (1, k) :: l : List Debt), 2 < debtLv d) :
    iprop(records m ρ K ∗ levAts L lv ∗ flying (0, k) c ∗ ready (1, k) c ∗ chunkAny (peer 1 c) (rM 1) k ∗ owing c (.inr (1, k) :: l))
      ⊢ iprop((finished (0, k) c ∗ flying (1, k) c ∗ chunkPts c (rM 0) k (sent m ρ 0 (peer 0 c)) ∗ owing c l -∗ bodyWp c (kont ⟨⟩) Q)
        -∗ bodyWp c (.op (.waitDma2 qs a₁ b₁ ha₁ hb₁) fun _ => .op (.waitDma2 qr a₂ b₂ ha₂ hb₂) fun _ =>
            .op (.load sM (Rect.unit (s := S256x256) ![o, 0] S64x256.size h).toLoadRect hl₁) fun v =>
            .op (.load r1M (Rect.unit (s := S256x256) ![o, 0] S64x256.size h).toLoadRect hl₂) fun w =>
            .op (.load sM (Rect.unit (s := S256x256) ![o, 0] S64x256.size h).toLoadRect hl₃) fun _ =>
            .op (.store sM (Rect.unit (s := S256x256) ![o, 0] S64x256.size h) (pay v w) Finset.univ hx hm) fun _ =>
            .op (.enqueueDma (sM.slice (Rect.unit (s := S256x256) ![o, 0] S64x256.size h) hs)
              (.remote (Dev.tc n : Thread nD τ) (r2M.slice (Rect.unit (s := S256x256) ![o, 0] S64x256.size h) hs') (.dma qs') hsc) (.dma qr') hsrc hdst hsem) kont) Q) := by
  iintro ⟨#HR, #Hlev, Hfly, Hready, Hland, HO⟩ Hk
  iapply (wp_wait_chunk m ρ K 0 k c hqs hqr hN₁ hN₂ (.inr (1, k) :: l) hl) $$ [Hfly HO]
  · isplitr; · iexact HR
    isplitr; · iexact Hlev
    isplitl [Hfly] <;> iassumption
  iintro ⟨Hdone, Hs, Hr, HO⟩
  iapply (wp_load_chunk c sM k ho (sent m ρ 0 c)) $$ Hs
  iintro Hs
  iapply (wp_load_chunk c (rM 0) k ho (sent m ρ 0 (peer 0 c))) $$ Hr
  iintro Hr
  iapply (wp_load_chunk c sM k ho (sent m ρ 0 c)) $$ Hs
  iintro Hs
  iapply (wp_store_chunk c sM k ho (sent m ρ 1 c) ((hpay _ _).trans rfl)) $$ [Hs]
  · unfold chunkAny; iexists _; iexact Hs
  iintro Hs
  iapply (wp_send_chunk m ρ K 1 k c hn (D := r2M) rfl ho hqs' hqr' l) $$ [Hready Hs Hland HO]
  · isplitr; · iexact HR
    isplitl [Hready]; · iexact Hready
    isplitl [Hs]; · iexact Hs
    isplitl [Hland] <;> iassumption
  iintro ⟨Hfly, HO⟩
  iapply Hk
  isplitl [Hdone]; · iexact Hdone
  isplitl [Hfly]; · iexact Hfly
  isplitl [Hr]; · iexact Hr
  iexact HO

/-- The gathering stretch at chunk `k`, nothing owed any more. -/
theorem wp_gather {α : Type} (K : Dev nD × CI → ℕ) (k : Fin 4) (c : Dev nD) {o : ℕ} (ho : o = 64 * k.val)
    {h : ∀ a, (![o, 0] : Fin 2 → ℕ) a + S64x256.size a ≤ S256x256.size a}
    {qs qr : DmaSem sig} (hqs : qs = sendS 1 k) (hqr : qr = recvS 1 k)
    {a₁ b₁ a₂ b₂ : Memref sig .tc .vmem S64x256 .bf16}
    {ha₁ : a₁.view.WordExact} {hb₁ : b₁.view.WordExact} {ha₂ : a₂.view.WordExact} {hb₂ : b₂.view.WordExact}
    (hN₁ : b₁.view.dmaCredit = N) (hN₂ : b₂.view.dmaCredit = N)
    {pay : Vec F S64x256 .bf16 → Vec F S64x256 .bf16 → Vec F S64x256 .f32}
    (hpay : ∀ a b, pay a b = addf (F := F) (φ := .f32) (extf .f32 a bitsLt_bf16_f32) (extf .f32 b bitsLt_bf16_f32))
    {hl₁ : sM.view.LoadsAt (Rect.unit (s := S256x256) ![o, 0] S64x256.size h).toLoadRect}
    {hl₂ : r2M.view.LoadsAt (Rect.unit (s := S256x256) ![o, 0] S64x256.size h).toLoadRect}
    {hl₃ : oM.view.LoadsAt (Rect.unit (s := S256x256) ![o, 0] S64x256.size h).toLoadRect}
    {hx : (oM.access (Rect.unit (s := S256x256) ![o, 0] S64x256.size h)).Stores Finset.univ}
    {hm : (Finset.univ : Finset (Rect.unit (s := S256x256) ![o, 0] S64x256.size h).shape.Idx) = Finset.univ
      ∨ ∀ a, (Rect.unit (s := S256x256) ![o, 0] S64x256.size h).stride a = 1}
    {kont : PUnit → Prog (TpuEff nD τ sig (Elt F) Λ₀ .tc) α} {Q : α → sProp 𝕄} (O : Vec F S256x256 .f32) :
    iprop(records m ρ K ∗ levAts L lv ∗ flying (1, k) c ∗ chunkPts c oM k O ∗ owing c [])
      ⊢ iprop((finished (1, k) c ∗ chunkPts c sM k (sent m ρ 1 c) ∗ chunkPts c (rM 1) k (sent m ρ 1 (peer 1 c))
            ∗ chunkPts c oM k (outAt m ρ c) ∗ owing c [] -∗ bodyWp c (kont ⟨⟩) Q)
        -∗ bodyWp c (.op (.waitDma2 qs a₁ b₁ ha₁ hb₁) fun _ => .op (.waitDma2 qr a₂ b₂ ha₂ hb₂) fun _ =>
            .op (.load sM (Rect.unit (s := S256x256) ![o, 0] S64x256.size h).toLoadRect hl₁) fun v =>
            .op (.load r2M (Rect.unit (s := S256x256) ![o, 0] S64x256.size h).toLoadRect hl₂) fun w =>
            .op (.load oM (Rect.unit (s := S256x256) ![o, 0] S64x256.size h).toLoadRect hl₃) fun _ =>
            .op (.store oM (Rect.unit (s := S256x256) ![o, 0] S64x256.size h) (pay v w) Finset.univ hx hm) kont) Q) := by
  iintro ⟨#HR, #Hlev, Hfly, Ho, HO⟩ Hk
  iapply (wp_wait_chunk m ρ K 1 k c hqs hqr hN₁ hN₂ [] (fun d hd => absurd hd List.not_mem_nil)) $$ [Hfly HO]
  · isplitr; · iexact HR
    isplitr; · iexact Hlev
    isplitl [Hfly] <;> iassumption
  iintro ⟨Hdone, Hs, Hr, HO⟩
  iapply (wp_load_chunk c sM k ho (sent m ρ 1 c)) $$ Hs
  iintro Hs
  iapply (wp_load_chunk c (rM 1) k ho (sent m ρ 1 (peer 1 c))) $$ Hr
  iintro Hr
  iapply (wp_load_chunk c oM k ho O) $$ Ho
  iintro Ho
  iapply (wp_store_chunk c oM k ho (outAt m ρ c) ((hpay _ _).trans rfl)) $$ [Ho]
  · unfold chunkAny; iexists _; iexact Ho
  iintro Ho
  iapply Hk
  isplitl [Hdone]; · iexact Hdone
  isplitl [Hs]; · iexact Hs
  isplitl [Hr]; · iexact Hr
  isplitl [Ho] <;> iassumption

end Cert.Exchange

end
-- ==== Proof.Body.lean ====
/-
# One device's kernel body

The body from what the launch hands a device to what it hands back: both signals, the block copied to the buffer
sent from, the barrier wait, the four copies of exchange 0, the four reducing stretches, the four gathering stretches.
-/
module

public import proofs.«01_k».proof.Proof.Stretches
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and what it leaves -/

/-- One assertion for each copy, spelt out. -/
theorem bigSep_copies (Φ : XI → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-- Device `c`'s place at its barrier and its right to signal each peer's. -/
def barReady (c : Dev nD) : sProp 𝕄 :=
  iprop(atPos ER (barCell c) 0 ∅ 0 ∗ dutyTok ER (barCell (peer 0 c)) 0 0 ∗ dutyTok ER (barCell (peer 1 c)) 0 1)

/-- What device `c` starts from, its buffers aside, under the names `K`. -/
def startAt (K : Dev nD × CI → ℕ) (c : Dev nD) : sProp 𝕄 :=
  iprop(records m ρ K ∗ levAts L lv ∗ barReady c ∗ cred (tallyAt (barCell c) () 2) ∗ bigSep Finset.univ fun x : XI => ready x c)

def start (c : Dev nD) : sProp 𝕄 := iprop(∃ K, startAt m ρ K c)

/-- The kernel's three buffers, holding anything. -/
def anyBufs (c : Dev nD) : sProp 𝕄 :=
  iprop((∃ f : Vec F S256x256 .bf16, owns (c : Thread nD τ) sM fullShare f)
    ∗ (∃ f : Vec F S256x256 .bf16, owns (c : Thread nD τ) (rM 0) fullShare f)
    ∗ ∃ f : Vec F S256x256 .bf16, owns (c : Thread nD τ) (rM 1) fullShare f)

def Φ₀ (c : Dev nD) : sProp 𝕄 := iprop(start m ρ c ∗ anyBufs c)

/-- At the end: the buffers again, and all the semaphores at zero. -/
def Φ₁ (c : Dev nD) : sProp 𝕄 :=
  iprop(anyBufs c ∗ semVal (barCell c) 0 ∗ bigSep Finset.univ fun x : XI => finished x c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Signals, the barrier wait, and the first copy of the block -/

theorem zeros : (![0, 0] : Fin 2 → ℕ) = fun _ => 0 := funext fun a => by fin_cases a <;> rfl

/-- The rectangle that is the whole buffer, -/
abbrev full : Rect S256x256 := Rect.unit (s := S256x256) ![0, 0] S256x256.size inb_S256x256_S256x256_0_0

/-- what a load of it reads, -/
theorem read_full (f : (cc0_stg0_0 : Ref sig .tc).ty.Contents (Elt F)) :
    (xM : Memref sig .tc .vmem S256x256 .bf16).view.readAt (Elt F) full.toLoadRect f = f :=
  Memref.readAt_unit_zero (Elt F) cc0_stg0_0 zeros _ f

/-- and what a store to it leaves. -/
theorem write_full (f w : (cc0_scratch0 : Ref sig .tc).ty.Contents (Elt F)) :
    ((sM : Memref sig .tc .vmem S256x256 .bf16).access full : View sig .tc _ _ _).write (Elt F) f w Finset.univ = w :=
  Memref.write_access_unit_zero_univ (Elt F) cc0_scratch0 zeros _ f w

/-- The block is stored as it was loaded. -/
theorem pay_block (v : Vec F S256x256 .bf16) : k0_pay2 v = v := by
  unfold k0_pay2; exact (shapeCast_self _ _).trans (shapeCast_self _ _)

/-! What the kernel stores in a reducing stretch is the sum of the two chunks it loaded. -/

theorem pay_reduce0 (a b : Vec F S64x256 .bf16) : k0_pay3 a b = addf (F := F) (φ := .bf16) a b := shapeCast_self _ _
theorem pay_reduce1 (a b : Vec F S64x256 .bf16) : k0_pay4 a b = addf (F := F) (φ := .bf16) a b := shapeCast_self _ _
theorem pay_reduce2 (a b : Vec F S64x256 .bf16) : k0_pay5 a b = addf (F := F) (φ := .bf16) a b := shapeCast_self _ _
theorem pay_reduce3 (a b : Vec F S64x256 .bf16) : k0_pay6 a b = addf (F := F) (φ := .bf16) a b := shapeCast_self _ _

/-- The signal of exchange `p`: one payment, handing the peer this device's landing buffer. -/
theorem wp_signal_peer {α : Type} (K : Dev nD × CI → ℕ) (p : Fin 2) (c : Dev nD) {n : Dev nD} (hn : n = peer p c) {a : ℕ} (ha : a = 1)
    {kont : PUnit → Prog (TpuEff nD τ sig (Elt F) Λ₀ .tc) α} {Q : α → sProp 𝕄} (l : List Debt) :
    iprop(records m ρ K ∗ dutyTok ER (barCell (peer p c)) 0 p
        ∗ (∃ G : Vec F S256x256 .bf16, owns (c : Thread nD τ) (rM p) fullShare G) ∗ owing c (.inl p :: l))
      ⊢ iprop((owing c l -∗ bodyWp c (kont ⟨⟩) Q)
        -∗ bodyWp c (.op (.semSignal (Dev.tc n : Thread nD τ) barS a) kont) Q) := by
  subst hn ha
  unfold owing
  iintro ⟨#HR, Htok, Hland, ⟨%W, HO⟩⟩ Hk
  iapply (Rounds.wp_signal 𝒱₀ ER (rd m ρ) (c : Thread nD τ) none (dst := (peer p c : Thread nD τ)) (κ := K (peer p c, .inl ()))
      (d := p) (by rw [duties_bar]; exact Finset.mem_univ _) (amount_bar m ρ (peer p c) p) () (owed c l) rfl) $$ [HO Htok Hland]
  · isplitr; · iapply (inv_at m ρ K (peer p c, .inl ())); iexact HR
    isplitl [HO]; · iexact HO
    isplitl [Htok]; · iexact Htok
    isplitl [Hland]
    · rw [payload_bar]; unfold barPay; rw [peer_peer]; iexact Hland
    · iapply (reached_at m ρ K (peer p c, .inl ())); iexact HR
  iintro HO
  iapply Hk
  iexists W; iexact HO

/-- The barrier wait: both peers' landing buffers, and the barrier semaphore back at zero. -/
theorem wp_barrier {α : Type} (K : Dev nD × CI → ℕ) (c : Dev nD) {a : ℕ} (ha : a = 2)
    {kont : PUnit → Prog (TpuEff nD τ sig (Elt F) Λ₀ .tc) α} {Q : α → sProp 𝕄} (l : List Debt) (hl : ∀ d ∈ l, 1 < debtLv d) :
    iprop(records m ρ K ∗ levAts L lv ∗ atPos ER (barCell c) 0 ∅ 0 ∗ cred (tallyAt (barCell c) () 2) ∗ owing c l)
      ⊢ iprop((barPay 0 c ∗ barPay 1 c ∗ semVal (barCell c) 0 ∗ owing c l -∗ bodyWp c (kont ⟨⟩) Q)
        -∗ bodyWp c (.op (.semWait barS a) kont) Q) := by
  subst ha
  unfold owing
  iintro ⟨#HR, #Hlev, Hat, Hc, ⟨%W, HO⟩⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := owed c l) (W := W) (R := 0) (m := 0) (T := ∅)
      (by rw [Nat.zero_add, expect_bar])) $$ [Hc HO Hat]
  · isplitr; · iapply (inv_at m ρ K (c, .inl ())); iexact HR
    isplitl [Hc]; · iexact Hc
    isplitl [HO]; · iexact HO
    isplitr; · iapply (mayWait c (.reg barS) l 1 rfl hl); iexact Hlev
    iexact Hat
  iintro ⟨HO, Hat, -, Hpay⟩
  ihave Hp := (Entails.of_eq (rest_bar m ρ c)) $$ Hpay
  icases Hp with ⟨H0, H1⟩
  imod (Rounds.cell_close ER (rd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [H0]; · iexact H0
  isplitl [H1]; · iexact H1
  isplitl [Hz]; · iexact Hz
  iexists _; iexact HO

/-- The peer's landing buffer of an exchange, as four chunks holding anything. -/
theorem landing_chunks (p : Fin 2) (c : Dev nD) : (barPay p c : sProp 𝕄)
    ⊢ iprop(chunkAny (peer p c) (rM p) 0 ∗ chunkAny (peer p c) (rM p) 1 ∗ chunkAny (peer p c) (rM p) 2 ∗ chunkAny (peer p c) (rM p) 3) := by
  unfold barPay chunkAny
  iintro ⟨%G, H⟩
  ihave H' := (chunks_of_whole (peer p c) (rM p) G) $$ H
  icases H' with ⟨H0, H1, H2, H3⟩
  isplitl [H0]; · iexists G; iexact H0
  isplitl [H1]; · iexists G; iexact H1
  isplitl [H2]; · iexists G; iexact H2
  iexists G; iexact H3

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop((startAt m ρ K c ∗ anyBufs c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 1600000 in
theorem sound_body (K : Dev nD × CI → ℕ) (c : Dev nD) (Kt : PUnit → sProp 𝕄) :
    iprop(bodyPre m ρ K c ∗ (bodyPost m ρ c -∗ Kt ⟨⟩))
      ⊢ bodyWp c
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  unfold bodyWp
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre startAt barReady anyBufs
  rw [bigSep_copies]
  iintro ⟨⟨⟨⟨#HR, #Hlev, ⟨Hat, Ht0, Ht1⟩, Hc, Y00, Y01, Y02, Y03, Y10, Y11, Y12, Y13⟩, ⟨%f0, Hs⟩, Hr0, Hr1⟩,
    Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  ihave HO : owing c allDebts $$ [Ho]
  · unfold Dat.owesAt Pipeline.owesWithin owing
    icases Ho with ⟨%W, %hW, HO⟩
    iexists W; iexact HO
  iapply (wp_signal_peer m ρ K 0 c (dev1_eq c) (by decide) ([.inl 1] ++ copyDebts)) $$ [Ht0 Hr0 HO]
  · isplitr; · iexact HR
    isplitl [Ht0]; · iexact Ht0
    isplitl [Hr0]; · iexact Hr0
    iexact HO
  iintro HO
  iapply (wp_signal_peer m ρ K 1 c (dev2_eq c) (by decide) copyDebts) $$ [Ht1 Hr1 HO]
  · isplitr; · iexact HR
    isplitl [Ht1]; · iexact Ht1
    isplitl [Hr1]; · iexact Hr1
    iexact HO
  iintro HO
  -- the block copied to the buffer sent from
  ihave Hs := (Entails.of_eq (owns_whole (c : Thread nD τ) cc0_scratch0 fullShare f0)) $$ Hs
  iapply (wp_load 𝒱₀ (c : Thread nD τ) none Set.univ (m := xM) (Finset.subset_univ _)) $$ Hx; iintro Hx
  rw [read_full]
  iapply (wp_load 𝒱₀ (c : Thread nD τ) none Set.univ (m := sM) (Finset.subset_univ _)) $$ Hs; iintro Hs
  iapply (wp_store 𝒱₀ (c : Thread nD τ) none Set.univ (m := sM) (r := full) (Mk := Finset.univ) (Finset.subset_univ _)) $$ Hs
  iintro Hs
  rw [write_full, pay_block]
  ihave Hs : owns (c : Thread nD τ) sM fullShare (sent m ρ 0 c) $$ [Hs]
  · rw [owns_whole]; iexact Hs
  ihave HsC := (chunks_of_whole c sM (sent m ρ 0 c)) $$ Hs
  icases HsC with ⟨S0, S1, S2, S3⟩
  -- the barrier
  iapply (wp_barrier m ρ K c (by decide) copyDebts (by decide)) $$ [Hat Hc HO]
  · isplitr; · iexact HR
    isplitr; · iexact Hlev
    isplitl [Hat]; · iexact Hat
    isplitl [Hc]; · iexact Hc
    iexact HO
  iintro ⟨HP0, HP1, HzB, HO⟩
  ihave HA := (landing_chunks 0 c) $$ HP0
  icases HA with ⟨A0, A1, A2, A3⟩
  ihave HB := (landing_chunks 1 c) $$ HP1
  icases HB with ⟨B0, B1, B2, B3⟩
  -- exchange 0 started
  iapply (wp_send_chunk m ρ K 0 0 c (dev3_eq c) (D := r1M) rfl (by rfl) (by rfl) (by rfl) ([.inr (0, 1), .inr (0, 2), .inr (0, 3)] ++ gatherDebts)) $$ [Y00 S0 A0 HO]
  · isplitr; · iexact HR
    isplitl [Y00]; · iexact Y00
    isplitl [S0]; · iexact S0
    isplitl [A0]; · iexact A0
    iexact HO
  iintro ⟨Y00, HO⟩
  iapply (wp_send_chunk m ρ K 0 1 c (dev4_eq c) (D := r1M) rfl (by rfl) (by rfl) (by rfl) ([.inr (0, 2), .inr (0, 3)] ++ gatherDebts)) $$ [Y01 S1 A1 HO]
  · isplitr; · iexact HR
    isplitl [Y01]; · iexact Y01
    isplitl [S1]; · iexact S1
    isplitl [A1]; · iexact A1
    iexact HO
  iintro ⟨Y01, HO⟩
  iapply (wp_send_chunk m ρ K 0 2 c (dev5_eq c) (D := r1M) rfl (by rfl) (by rfl) (by rfl) ([.inr (0, 3)] ++ gatherDebts)) $$ [Y02 S2 A2 HO]
  · isplitr; · iexact HR
    isplitl [Y02]; · iexact Y02
    isplitl [S2]; · iexact S2
    isplitl [A2]; · iexact A2
    iexact HO
  iintro ⟨Y02, HO⟩
  iapply (wp_send_chunk m ρ K 0 3 c (dev6_eq c) (D := r1M) rfl (by rfl) (by rfl) (by rfl) ([] ++ gatherDebts)) $$ [Y03 S3 A3 HO]
  · isplitr; · iexact HR
    isplitl [Y03]; · iexact Y03
    isplitl [S3]; · iexact S3
    isplitl [A3]; · iexact A3
    iexact HO
  iintro ⟨Y03, HO⟩
  -- exchange 0 reduced, exchange 1 started
  iapply (wp_reduce m ρ K 0 c (dev7_eq c) (by rfl) (by rfl) (by rfl) (by rfl) (by rfl) (by rfl) (by rfl) (pay := k0_pay3) pay_reduce0 [.inr (1, 1), .inr (1, 2), .inr (1, 3)] (by decide)) $$ [Y00 Y10 B0 HO]
  · isplitr; · iexact HR
    isplitr; · iexact Hlev
    isplitl [Y00]; · iexact Y00
    isplitl [Y10]; · iexact Y10
    isplitl [B0]; · iexact B0
    iexact HO
  iintro ⟨Y00, Y10, A0, HO⟩
  iapply (wp_reduce m ρ K 1 c (dev8_eq c) (by rfl) (by rfl) (by rfl) (by rfl) (by rfl) (by rfl) (by rfl) (pay := k0_pay4) pay_reduce1 [.inr (1, 2), .inr (1, 3)] (by decide)) $$ [Y01 Y11 B1 HO]
  · isplitr; · iexact HR
    isplitr; · iexact Hlev
    isplitl [Y01]; · iexact Y01
    isplitl [Y11]; · iexact Y11
    isplitl [B1]; · iexact B1
    iexact HO
  iintro ⟨Y01, Y11, A1, HO⟩
  iapply (wp_reduce m ρ K 2 c (dev9_eq c) (by rfl) (by rfl) (by rfl) (by rfl) (by rfl) (by rfl) (by rfl) (pay := k0_pay5) pay_reduce2 [.inr (1, 3)] (by decide)) $$ [Y02 Y12 B2 HO]
  · isplitr; · iexact HR
    isplitr; · iexact Hlev
    isplitl [Y02]; · iexact Y02
    isplitl [Y12]; · iexact Y12
    isplitl [B2]; · iexact B2
    iexact HO
  iintro ⟨Y02, Y12, A2, HO⟩
  iapply (wp_reduce m ρ K 3 c (dev10_eq c) (by rfl) (by rfl) (by rfl) (by rfl) (by rfl) (by rfl) (by rfl) (pay := k0_pay6) pay_reduce3 [] (by decide)) $$ [Y03 Y13 B3 HO]
  · isplitr; · iexact HR
    isplitr; · iexact Hlev
    isplitl [Y03]; · iexact Y03
    isplitl [Y13]; · iexact Y13
    isplitl [B3]; · iexact B3
    iexact HO
  iintro ⟨Y03, Y13, A3, HO⟩
  -- the result
  ihave Hout : owns (c : Thread nD τ) oM fullShare g1 $$ [Hout]
  · rw [owns_whole]; iexact Hout
  ihave HoC := (chunks_of_whole c oM g1) $$ Hout
  icases HoC with ⟨O0, O1, O2, O3⟩
  iapply (wp_gather m ρ K 0 c (by rfl) (by rfl) (by rfl) (by rfl) (by rfl) (pay := k0_pay7) (fun _ _ => rfl) g1) $$ [Y10 O0 HO]
  · isplitr; · iexact HR
    isplitr; · iexact Hlev
    isplitl [Y10]; · iexact Y10
    isplitl [O0]; · iexact O0
    iexact HO
  iintro ⟨Y10, S0, B0, O0, HO⟩
  iapply (wp_gather m ρ K 1 c (by rfl) (by rfl) (by rfl) (by rfl) (by rfl) (pay := k0_pay8) (fun _ _ => rfl) g1) $$ [Y11 O1 HO]
  · isplitr; · iexact HR
    isplitr; · iexact Hlev
    isplitl [Y11]; · iexact Y11
    isplitl [O1]; · iexact O1
    iexact HO
  iintro ⟨Y11, S1, B1, O1, HO⟩
  iapply (wp_gather m ρ K 2 c (by rfl) (by rfl) (by rfl) (by rfl) (by rfl) (pay := k0_pay9) (fun _ _ => rfl) g1) $$ [Y12 O2 HO]
  · isplitr; · iexact HR
    isplitr; · iexact Hlev
    isplitl [Y12]; · iexact Y12
    isplitl [O2]; · iexact O2
    iexact HO
  iintro ⟨Y12, S2, B2, O2, HO⟩
  iapply (wp_gather m ρ K 3 c (by rfl) (by rfl) (by rfl) (by rfl) (by rfl) (pay := k0_pay1) (fun _ _ => rfl) g1) $$ [Y13 O3 HO]
  · isplitr; · iexact HR
    isplitr; · iexact Hlev
    isplitl [Y13]; · iexact Y13
    isplitl [O3]; · iexact O3
    iexact HO
  iintro ⟨Y13, S3, B3, O3, HO⟩
  unfold bodyWp; rw [wp_ret]; imodintro
  iapply Hk
  unfold bodyPost Φ₁ anyBufs Dat.owesAt Pipeline.owesWithin
  rw [bigSep_copies]
  isplitl [S0 S1 S2 S3 A0 A1 A2 A3 B0 B1 B2 B3 HzB Y00 Y01 Y02 Y03 Y10 Y11 Y12 Y13]
  · isplitl [S0 S1 S2 S3 A0 A1 A2 A3 B0 B1 B2 B3]
    · isplitl [S0 S1 S2 S3]
      · iexists (sent m ρ 1 c)
        iapply (whole_of_chunks c sM (sent m ρ 1 c))
        isplitl [S0]; · iexact S0
        isplitl [S1]; · iexact S1
        isplitl [S2]; · iexact S2
        iexact S3
      isplitl [A0 A1 A2 A3]
      · iexists (sent m ρ 0 (peer 0 c))
        iapply (whole_of_chunks c (rM 0) (sent m ρ 0 (peer 0 c)))
        isplitl [A0]; · iexact A0
        isplitl [A1]; · iexact A1
        isplitl [A2]; · iexact A2
        iexact A3
      · iexists (sent m ρ 1 (peer 1 c))
        iapply (whole_of_chunks c (rM 1) (sent m ρ 1 (peer 1 c)))
        isplitl [B0]; · iexact B0
        isplitl [B1]; · iexact B1
        isplitl [B2]; · iexact B2
        iexact B3
    isplitl [HzB]; · iexact HzB
    isplitl [Y00]; · iexact Y00
    isplitl [Y01]; · iexact Y01
    isplitl [Y02]; · iexact Y02
    isplitl [Y03]; · iexact Y03
    isplitl [Y10]; · iexact Y10
    isplitl [Y11]; · iexact Y11
    isplitl [Y12]; · iexact Y12
    iexact Y13
  isplitl [HO]
  · unfold owing
    icases HO with ⟨%W, HO⟩
    iexists W
    isplitr; · ipureintro; exact fun _ _ => Or.inl trivial
    iexact HO
  isplitl [Hx]
  · iexists _; isplitr; · (ipureintro; rfl)
    iexact Hx
  iexists _; isplitr; · (ipureintro; rfl)
  ihave Hout := (whole_of_chunks c oM (outAt m ρ c)) $$ [O0 O1 O2 O3]
  · isplitl [O0]; · iexact O0
    isplitl [O1]; · iexact O1
    isplitl [O2]; · iexact O2
    iexact O3
  ihave Hout := (Entails.of_eq (owns_whole (c : Thread nD τ) cc0_stg1_0 fullShare (outAt m ρ c))) $$ Hout
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d))) ⊢ bodyWp c
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m ρ c)
  unfold Φ₀ start
  iintro ⟨⟨⟨%K, Hs⟩, Hb⟩, Ho, Hx, Hout⟩
  iapply (sound_body m ρ K c fun _ => bodyPost m ρ c)
  unfold bodyPre
  isplitr []
  · isplitl [Hs Hb]
    · isplitl [Hs]; · iexact Hs
      iexact Hb
    isplitl [Ho]; · iexact Ho
    isplitl [Hx]; · iexact Hx
    iexact Hout
  · iintro H; iexact H

end Cert.Exchange

end
-- ==== Proof.Tokens.lean ====
/-
# The semaphores' state at launch, dealt to the devices

Every semaphore of the exchange starts at round 0 with its duties unpaid. The semaphores go into invariants; the right
to pay a duty goes to the device that pays it: the peer, for a barrier signal and for a copy's receive semaphore.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

/-! ## The duties -/

/-- A device's duties: the two of its barrier semaphore, and the one of each send and receive semaphore. -/
abbrev TI : Type := Fin 2 ⊕ (XI ⊕ XI)

def dutyOf : Dev nD × TI → GSem nD τ sig × ℕ × Fin 2
  | (c, .inl p) => (kcell (c, .inl ()), 0, p)
  | (c, .inr j) => (kcell (c, .inr j), 0, 0)

theorem dutyOf_injective : Function.Injective dutyOf := by
  rintro ⟨c, j⟩ ⟨c', j'⟩ h
  rcases j with p | j <;> rcases j' with p' | j'
  · have h1 := kcell_injective (congrArg Prod.fst h)
    have h2 : p = p' := congrArg (fun x : GSem nD τ sig × ℕ × Fin 2 => x.2.2) h
    rw [(Prod.mk.inj h1).1, h2]
  · have h1 := (Prod.mk.inj (kcell_injective (congrArg Prod.fst h))).2
    cases h1
  · have h1 := (Prod.mk.inj (kcell_injective (congrArg Prod.fst h))).2
    cases h1
  · have h1 := Prod.mk.inj (kcell_injective (congrArg Prod.fst h))
    rw [h1.1, Sum.inr.inj h1.2]

def cellSet : Finset (GSem nD τ sig) := Finset.univ.map ⟨kcell, kcell_injective⟩
def dutySet : Finset (GSem nD τ sig × ℕ × Fin 2) := Finset.univ.map ⟨dutyOf, dutyOf_injective⟩

/-- The rights to pay device `c`'s own semaphores' duties. -/
def toks (c : Dev nD) : sProp 𝕄 :=
  iprop((dutyTok ER (barCell c) 0 0 ∗ dutyTok ER (barCell c) 0 1)
    ∗ (bigSep Finset.univ fun x : XI => dutyTok ER (sendCell x.1 x.2 c) 0 0)
    ∗ bigSep Finset.univ fun x : XI => dutyTok ER (recvCell x.1 x.2 c) 0 0)

/-- What the launch hands device `c` for its semaphores: their state, its places, the rights to pay. -/
def G (c : Dev nD) : sProp 𝕄 :=
  iprop((bigSep Finset.univ fun j : CI => roundState ER (rd m ρ) (kcell (c, j)) 0)
    ∗ (bigSep Finset.univ fun j : CI => iprop(atPos ER (kcell (c, j)) 0 ∅ 0 ∗ reached ER (kcell (c, j)) 0)) ∗ toks c)

/-- One assertion for each semaphore of a device: the barrier's, the sends', the receives'. -/
theorem bigSep_cells (Φ : CI → sProp 𝕄) : bigSep Finset.univ Φ
    = iprop(Φ (.inl ()) ∗ (bigSep Finset.univ fun x : XI => Φ (.inr (.inl x))) ∗ bigSep Finset.univ fun x : XI => Φ (.inr (.inr x))) := by
  rw [BI.bigSep_univ_sum, BI.bigSep_univ_sum, bigSep_univ_eq_bigSepL [()] (by decide) (by decide)]; rfl

theorem fund_cells : BI.own (ER (initOf cellSet dutySet)) ⊢ (|==> bigSep Finset.univ (G m ρ) : sProp 𝕄) := by
  have hX (Φ : GSem nD τ sig → sProp 𝕄) : bigSep cellSet Φ = bigSep Finset.univ fun c : Dev nD => bigSep Finset.univ fun j : CI => Φ (kcell (c, j)) := by
    unfold cellSet; rw [bigSep_map, bigSep_univ_prod]; rfl
  have hT : bigSep dutySet (fun x => (dutyTok ER x.1 x.2.1 x.2.2 : sProp 𝕄)) = bigSep Finset.univ fun c : Dev nD => toks c := by
    unfold dutySet; rw [bigSep_map, bigSep_univ_prod]
    refine bigSep_congr fun c _ => ?_
    rw [BI.bigSep_univ_sum, BI.bigSep_univ_sum, bigSep_univ_eq_bigSepL ([0, 1] : List (Fin 2)) (by decide) (by decide)]
    rfl
  iintro HX
  imod (Rounds.fund ER (rd m ρ) cellSet dutySet) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores put into invariants -/

/-- The barrier semaphore is the one the launch does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The launch owns the send and the receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun x : XI => semVal (sendCell x.1 x.2 c) 0) ∗ bigSep Finset.univ fun x : XI => semVal (recvCell x.1 x.2 c) 0) := by
  unfold Pipeline.ownSems0; exact BI.bigSep_univ_sum _

theorem sems_at_zero (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [unscopedSems0_eq, ownSems0_eq, bigSep_cells]
  iintro ⟨⟨HS, HV⟩, HB⟩
  isplitl [HB]; · iexact HB
  isplitl [HS]; · iexact HS
  iexact HV

theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CI => iprop(∃ κ : ℕ, cellInv ER (rd m ρ) κ (kcell (c, j))))
          ∗ (bigSep Finset.univ fun j : CI => iprop(atPos ER (kcell (c, j)) 0 ∅ 0 ∗ reached ER (kcell (c, j)) 0)) ∗ toks c) := by
  unfold G
  iintro ⟨Hos, Hus, Hst, Hat, Htok⟩
  ihave Hv := (sems_at_zero (F := F) c) $$ [Hos Hus]
  · isplitl [Hos] <;> iassumption
  imod (show iprop((bigSep Finset.univ fun j : CI => semVal (kcell (c, j)) 0) ∗ bigSep Finset.univ fun j : CI => roundState ER (rd m ρ) (kcell (c, j)) 0)
      ⊢ (|={Set.univ}=> bigSep Finset.univ fun j : CI => iprop(∃ κ : ℕ, cellInv ER (rd m ρ) κ (kcell (c, j))) : sProp 𝕄) from by
        rw [← bigSep_sep']
        exact (bigSep_mono fun j _ => (Rounds.body_intro ER (rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights to pay, dealt to who pays -/

/-- A device's places and rights for the copy `x`. -/
def copyHeld (x : XI) (c : Dev nD) : sProp 𝕄 :=
  iprop((atPos ER (sendCell x.1 x.2 c) 0 ∅ 0 ∗ atPos ER (recvCell x.1 x.2 c) 0 ∅ 0)
    ∗ (dutyTok ER (sendCell x.1 x.2 c) 0 0 ∗ dutyTok ER (recvCell x.1 x.2 (peer x.1 c)) 0 0))

/-- What device `c` ends up holding for its semaphores, their invariants' names being `K`. -/
def held (c : Dev nD) : sProp 𝕄 := iprop(barReady c ∗ bigSep Finset.univ fun x : XI => copyHeld x c)

def G' (c : Dev nD) : sProp 𝕄 := iprop(∃ K, records m ρ K ∗ held c)

/-- The rights to pay that a device ends up holding. -/
def payToks (c : Dev nD) : sProp 𝕄 :=
  iprop((dutyTok ER (barCell (peer 0 c)) 0 0 ∗ dutyTok ER (barCell (peer 1 c)) 0 1)
    ∗ (bigSep Finset.univ fun x : XI => dutyTok ER (sendCell x.1 x.2 c) 0 0)
    ∗ bigSep Finset.univ fun x : XI => dutyTok ER (recvCell x.1 x.2 (peer x.1 c)) 0 0)

/-- Every device paired with its peer of each copy's exchange. -/
def swapAll : Dev nD × XI ≃ Dev nD × XI :=
  ⟨fun y => (peer y.2.1 y.1, y.2), fun y => (peer y.2.1 y.1, y.2), fun y => by simp only [peer_peer], fun y => by simp only [peer_peer]⟩

/-- The rights dealt: every barrier's duty `p` and every receive semaphore's duty to the peer. -/
theorem toks_dealt : (bigSep Finset.univ fun c : Dev nD => (toks c : sProp 𝕄)) ⊢ bigSep Finset.univ fun c : Dev nD => payToks c := by
  have hR : (bigSep Finset.univ fun c : Dev nD => bigSep Finset.univ fun x : XI => (dutyTok ER (recvCell x.1 x.2 c) 0 0 : sProp 𝕄))
      = bigSep Finset.univ fun c : Dev nD => bigSep Finset.univ fun x : XI => (dutyTok ER (recvCell x.1 x.2 (peer x.1 c)) 0 0 : sProp 𝕄) := by
    rw [← bigSep_univ_prod (fun y : Dev nD × XI => (dutyTok ER (recvCell y.2.1 y.2.2 y.1) 0 0 : sProp 𝕄)),
      BI.bigSep_univ_equiv swapAll, bigSep_univ_prod]
    rfl
  unfold toks payToks
  rw [bigSep_sep', bigSep_sep', bigSep_sep', bigSep_sep', bigSep_sep', bigSep_sep', hR,
    BI.bigSep_univ_equiv (swap 0) (fun c : Dev nD => (dutyTok ER (barCell c) 0 0 : sProp 𝕄)),
    BI.bigSep_univ_equiv (swap 1) (fun c : Dev nD => (dutyTok ER (barCell c) 0 1 : sProp 𝕄))]
  exact BI.Entails.refl _

theorem held_intro (c : Dev nD) :
    iprop((bigSep Finset.univ fun j : CI => atPos ER (kcell (c, j)) 0 ∅ 0) ∗ payToks c) ⊢ (held c : sProp 𝕄) := by
  unfold held payToks barReady copyHeld
  rw [bigSep_cells, bigSep_sep', bigSep_sep', bigSep_sep']
  iintro ⟨⟨HB, HS, HV⟩, ⟨T0, T1⟩, TS, TV⟩
  isplitl [HB T0 T1]
  · isplitl [HB]; · iexact HB
    isplitl [T0] <;> iassumption
  isplitl [HS HV]
  · isplitl [HS]; · iexact HS
    iexact HV
  isplitl [TS] <;> iassumption

theorem with_records {Φ Ψ : Dev nD → sProp 𝕄} {R : sProp 𝕄} [BI.Persistent R] (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun j : CI => iprop(∃ κ : ℕ, cellInv ER (rd m ρ) κ (kcell (c, j))))
          ∗ (bigSep Finset.univ fun j : CI => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun x : Dev nD × CI => iprop(∃ κ : ℕ, cellInv ER (rd m ρ) κ (kcell x))),
    bigSep_congr (s := Finset.univ) (fun (c : Dev nD) _ => bigSep_sep' Finset.univ (fun j : CI => (atPos ER (kcell (c, j)) 0 ∅ 0 : sProp 𝕄)) (fun j => reached ER (kcell (c, j)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (rd m ρ) κ (kcell x) : sProp 𝕄))) $$ HI
  icases HK with ⟨%K, #HI⟩
  ihave Htk := (toks_dealt (F := F)) $$ Htok
  iapply (with_records (R := records m ρ K) (Φ := held) fun c => show iprop(records m ρ K ∗ held c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun j : CI => (atPos ER (kcell (c, j)) 0 ∅ 0 : sProp 𝕄)) payToks).symm).trans
      (bigSep_mono fun c _ => held_intro c))
    isplitl [Hat]; · iexact Hat
    iexact Htk

/-- All the devices' semaphores put into invariants at once, and what goes with them dealt. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

end Cert.Exchange

end
-- ==== Proof.Credits.lean ====
/-
# What the devices are owed at launch

Each device's barrier semaphore is owed one unit by each peer; each receive semaphore one chunk's copy by the peer of
its exchange. Those units are the device's to wait for.
-/
module

public import proofs.«01_k».proof.Proof.Tokens

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What one device owes one semaphore -/

theorem recv_eq_iff {p q : Fin 2} {k j : Fin 4} {c d : Dev nD} : recvCell p k c = recvCell q j d ↔ (p, k) = (q, j) ∧ c = d := by
  constructor
  · intro h
    have h' := Prod.mk.inj (kcell_injective (a₁ := (c, .inr (.inr (p, k)))) (a₂ := (d, .inr (.inr (q, j)))) h)
    exact ⟨Sum.inr.inj (Sum.inr.inj h'.2), h'.1⟩
  · rintro ⟨h, rfl⟩
    rw [(Prod.mk.inj h).1, (Prod.mk.inj h).2]

theorem bar_eq_iff {c d : Dev nD} : barCell c = barCell d ↔ c = d :=
  ⟨fun h => (Prod.mk.inj (kcell_injective (a₁ := (c, .inl ())) (a₂ := (d, .inl ())) h)).1, fun h => h ▸ rfl⟩

theorem bar_ne_recv {p : Fin 2} {k : Fin 4} {c d : Dev nD} : barCell c ≠ recvCell p k d := fun h => by
  have := (Prod.mk.inj (kcell_injective (a₁ := (c, .inl ())) (a₂ := (d, .inr (.inr (p, k)))) h)).2
  cases this

/-- A payment of device `d` goes to the receive semaphore of `c`'s copy exactly when it is that copy and `d` the peer, -/
theorem pays_recv {p : Fin 2} {k : Fin 4} {c d : Dev nD} {e : Debt} : recvCell p k c = debtCell d e ↔ e = .inr (p, k) ∧ d = peer p c := by
  rcases e with q | ⟨q, j⟩
  · exact ⟨fun h => absurd h.symm bar_ne_recv, fun h => by cases h.1⟩
  · refine (recv_eq_iff (d := peer q d)).trans ⟨fun h => ?_, fun h => ?_⟩
    · obtain ⟨rfl, rfl⟩ := Prod.mk.inj h.1
      exact ⟨rfl, eq_peer_comm.mp h.2.symm⟩
    · obtain ⟨rfl, rfl⟩ := Prod.mk.inj (Sum.inr.inj h.1)
      exact ⟨rfl, (eq_peer_comm.mpr h.2).symm⟩

/-- and to `c`'s barrier semaphore exactly when it is a signal and `d` the peer of its exchange. -/
theorem pays_bar {c d : Dev nD} {e : Debt} : barCell c = debtCell d e ↔ (e = .inl 0 ∧ d = peer 0 c) ∨ (e = .inl 1 ∧ d = peer 1 c) := by
  rcases e with q | ⟨q, j⟩
  · refine (bar_eq_iff (d := peer q d)).trans ⟨fun h => ?_, fun h => ?_⟩
    · have h' := eq_peer_comm.mp h.symm
      fin_cases q
      · exact Or.inl ⟨rfl, h'⟩
      · exact Or.inr ⟨rfl, h'⟩
    · rcases h with ⟨h1, h2⟩ | ⟨h1, h2⟩
      · rw [Sum.inl.inj h1]; exact (eq_peer_comm.mpr h2).symm
      · rw [Sum.inl.inj h1]; exact (eq_peer_comm.mpr h2).symm
  · exact ⟨fun h => absurd h bar_ne_recv, fun h => by rcases h with ⟨h, -⟩ | ⟨h, -⟩ <;> cases h⟩

theorem amount_copy (x : XI) : debtAmount (.inr x) = N := rfl
theorem amount_signal (p : Fin 2) : debtAmount (.inl p) = 1 := rfl

/-- How often the payment `e` is in the list. -/
def times (e : Debt) (l : List Debt) : ℕ := l.countP fun d => decide (d = e)

theorem times_cons (e d : Debt) (l : List Debt) : times e (d :: l) = times e l + if d = e then 1 else 0 := by
  unfold times; rw [List.countP_cons]; simp only [decide_eq_true_eq]

theorem times_copy (p : Fin 2) (k : Fin 4) : times (.inr (p, k)) allDebts = 1 := by revert p k; decide
theorem times_signal (p : Fin 2) : times (.inl p) allDebts = 1 := by revert p; decide

/-- Device `d` owes device `c`'s receive semaphore only as its peer, once for each time the copy is outstanding. -/
theorem owed_recv (p : Fin 2) (k : Fin 4) (c d : Dev nD) : ∀ l : List Debt,
    owed d l (recvCell p k c) () = if d = peer p c then N * times (.inr (p, k)) l else 0
  | [] => (ite_self (c := d = peer p c) 0).symm
  | e :: l => by
    unfold owed
    rw [Pi.add_apply, Finsupp.add_apply, owed_recv p k c d l, tallyAt_apply, times_cons]
    by_cases hd : d = peer p c
    · by_cases he : e = .inr (p, k)
      · rw [if_pos hd, if_pos hd, if_pos ⟨pays_recv.mpr ⟨he, hd⟩, rfl⟩, if_pos he, he, amount_copy, Nat.mul_add, Nat.mul_one]
      · rw [if_pos hd, if_pos hd, if_neg (fun h => he (pays_recv.mp h.1).1), if_neg he]; rfl
    · rw [if_neg hd, if_neg hd, if_neg (fun h => hd (pays_recv.mp h.1).2)]

/-- Device `d` owes device `c`'s barrier semaphore once for each outstanding signal of an exchange it is `c`'s peer in. -/
theorem owed_bar (c d : Dev nD) : ∀ l : List Debt,
    owed d l (barCell c) () = (if d = peer 0 c then times (.inl 0) l else 0) + (if d = peer 1 c then times (.inl 1) l else 0)
  | [] => by
    show 0 = (if d = peer 0 c then 0 else 0) + (if d = peer 1 c then 0 else 0)
    rw [ite_self, ite_self]
  | e :: l => by
    unfold owed
    rw [Pi.add_apply, Finsupp.add_apply, owed_bar c d l, tallyAt_apply, times_cons, times_cons]
    have h01 : ¬ (d = peer 0 c ∧ d = peer 1 c) := by revert c d; decide
    by_cases h : (e = .inl 0 ∧ d = peer 0 c) ∨ (e = .inl 1 ∧ d = peer 1 c)
    · rw [if_pos (c := barCell c = debtCell d e ∧ () = ()) ⟨pays_bar.mpr h, rfl⟩]
      rcases h with ⟨rfl, hd⟩ | ⟨rfl, hd⟩
      · rw [if_pos hd, if_pos hd, if_pos rfl, if_neg (fun h => h01 ⟨hd, h⟩), if_neg (fun h => h01 ⟨hd, h⟩), amount_signal]
      · rw [if_pos hd, if_pos hd, if_pos rfl, if_neg (fun h => h01 ⟨h, hd⟩), if_neg (fun h => h01 ⟨h, hd⟩), amount_signal, Nat.add_assoc]
    · rw [if_neg (c := barCell c = debtCell d e ∧ () = ()) (fun h' => h (pays_bar.mp h'.1)), Nat.add_zero]
      congr 1
      · by_cases hd : d = peer 0 c
        · rw [if_pos hd, if_pos hd, if_neg (fun he => h (Or.inl ⟨he, hd⟩)), Nat.add_zero]
        · rw [if_neg hd, if_neg hd]
      · by_cases hd : d = peer 1 c
        · rw [if_pos hd, if_pos hd, if_neg (fun he => h (Or.inr ⟨he, hd⟩)), Nat.add_zero]
        · rw [if_neg hd, if_neg hd]

/-! ## What the semaphores are owed in all -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owed_bar c d allDebts, times_signal, times_signal,
    Finset.sum_add_distrib, Finset.sum_ite_eq' Finset.univ (peer 0 c) fun _ => 1, Finset.sum_ite_eq' Finset.univ (peer 1 c) fun _ => 1,
    if_pos (Finset.mem_univ _), if_pos (Finset.mem_univ _)]

theorem launch_recv (p : Fin 2) (k : Fin 4) (c : Dev nD) :
    tallyOn (recvCell p k c) (launchCredit (Pipeline.owing O₀) 0 (recvCell p k c)) = (tallyAt (recvCell p k c) () N : CellTallies nD τ sig Unit) := by
  unfold tallyAt; refine congrArg _ (Finsupp.ext fun u => ?_); cases u
  rw [Pipeline.launchCredit_owing, Finsupp.single_eq_same, Finset.sum_congr rfl fun d _ => show O₀ d (recvCell p k c) () = _ from owed_recv p k c d allDebts, times_copy, Nat.mul_one,
    Finset.sum_ite_eq' Finset.univ (peer p c) fun _ => N, if_pos (Finset.mem_univ _)]

/-- The semaphores that are owed something: the barrier's and the receives'. -/
def owedSem : Unit ⊕ XI ↪ SemLoc sig :=
  ⟨fun | .inl u => csem (.inl u) | .inr x => csem (.inr (.inr x)), by
    rintro (a | a) (b | b) h
    · rfl
    · cases csem_injective h
    · cases csem_injective h
    · rw [Sum.inr.inj (Sum.inr.inj (csem_injective h))]⟩

/-- The units device `c` may wait for: two at its barrier, a chunk's at each receive semaphore. -/
theorem creds (c : Dev nD) : (Pipeline.launchCred O₀ c : sProp 𝕄)
    ⊢ iprop(cred (tallyAt (barCell c) () 2) ∗ bigSep Finset.univ fun x : XI => cred (tallyAt (recvCell x.1 x.2 c) () N)) := by
  unfold Pipeline.launchCred
  refine Entails.trans (bigSep_subset (t := Finset.univ.map owedSem) (Finset.subset_univ _)) (Entails.of_eq ?_)
  rw [bigSep_map, BI.bigSep_univ_sum, bigSep_univ_eq_bigSepL [()] (by decide) (by decide),
    ← launch_bar, bigSep_congr (s := Finset.univ) fun (x : XI) _ => congrArg (fun t => (cred t : sProp 𝕄)) (launch_recv x.1 x.2 c).symm]
  rfl

end Cert.Exchange

end
-- ==== Proof.Run.lean ====
/-
# The run

All the devices' kernels together: every weakly fair execution ends, with each device's result array holding what
`outAt` states, the input as it was, and every semaphore at zero.
-/
module

public import proofs.«01_k».proof.Proof.Credits
public import Idealize.ShloMosaic.Lib.Pipeline.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the launch gives a device, and what it takes back -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' held start startAt ready copyHeld
  simp only [bigSep_sep']
  iintro ⟨-, Hlev, Hcr, -, ⟨%K, HR, HB, ⟨HS, HV⟩, TS, TV⟩⟩
  ihave Hc := (creds (F := F) c) $$ Hcr
  icases Hc with ⟨H1, HN⟩
  imodintro
  isplitl
  · iexists K
    isplitl [HR]; · iexact HR
    isplitl [Hlev]; · iexact Hlev
    isplitl [HB]; · iexact HB
    isplitl [H1]; · iexact H1
    isplitl [HS HV]
    · isplitl [HS] <;> iassumption
    isplitl [TS TV]
    · isplitl [TS] <;> iassumption
    iexact HN
  · iempintro

/-- The kernel's buffers, as the launch speaks of them. -/
theorem anyBufs_eq (c : Dev nD) : (anyBufs c : sProp 𝕄) = Pipeline.scopedRest cfg0.spec c := by
  refine Eq.trans ?_ (scopedRest0_eq c).symm
  unfold anyBufs rM
  simp only [owns_whole]
  rfl

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← anyBufs_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← anyBufs_eq, ownSems0_eq, unscopedSems0_eq]
  unfold Φ₁ finished
  rw [bigSep_sep']
  iintro ⟨Hr, HzB, HzS, HzV⟩
  isplitl [HzB]; · iexact HzB
  isplitl [HzS HzV]
  · isplitl [HzS] <;> iassumption
  iexact Hr

/-- The staging copies' semaphores lie below every payment. -/
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma (((cfgs 0).win w).sem s)) () = 0 := by
      fin_cases w <;> fin_cases s <;> rfl
    rcases t with ⟨_ | _, ht⟩
    · exact mayWait c _ allDebts 0 hl (by decide)
    · exact mayWait c _ [] 0 hl (fun d hd => absurd hd List.not_mem_nil)

/-! ## The run -/

def u₀ : UU :=
  (initOf (Pipeline.cells cfgs cellOf_inj) (Pipeline.launchToks cfgs cellOf_inj), initOf cellSet dutySet)

/-- What the window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem share_full (c : Dev nD) (w : Fin cfg0.W) : (dats m ρ 0 c).share w = fullShare := by unfold Pipeline.Dat.share; split <;> rfl

set_option maxRecDepth 8000 in
/-- From any memory with all semaphores at zero, for any float values: every weakly fair execution of `main` on the
    sixteen devices ends, with the windows' arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array is unchanged. -/
theorem finalA_arg (c : Dev nD) : finalA m ρ c (0 : Fin 2) = m ((c : Thread nD τ).loc main_arg0) :=
  (dats (F := F) m ρ 0 c).arrAt_in (0 : Fin 2) rfl _

end Cert.Exchange

end
-- ==== Proof.Value.lean ====
/-
# The value of the result

What the exchange leaves in the output array of each device, in terms of the input arrays; and, with floats read as
extended reals, that this is the reference's sum of the four row blocks of the whole input.
-/
module

public import proofs.«01_k».proof.Proof.Run
public import proofs.«01_k».proof.Proof.Gen.ReferenceIdeal.Run
public import Idealize.ShloMosaic.Lib.Pointwise
public import Idealize.ShloMosaic.Lib.ValueIdx
public import Idealize.ShloMosaic.Lib.Layout

@[expose] public section

noncomputable section

namespace Cert.Exchange

open Cert.KernelIdeal Cert.KernelIdeal.Gen

open Idealize.ShloMosaic
open Idealize.ShloMosaic.TcCoe
open Idealize.SL.Sem

section Arrays

variable {F : FTy → Type} [FloatOps F]
variable (m : (ℓ : Loc nD τ sig) → Buf (Elt F) ℓ) (ρ : Dev nD → PrngReg)

/-- The input's window is the whole array: a device's staged block is its input array. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- After the run the output array of device `c` holds its result. -/
theorem finalA_out (c : Dev nD) : finalA m ρ c (1 : Fin 2) = outAt m ρ c := by
  have hw := (dats m ρ 0 c).arrAt_succ (1 : Fin 2) (0 : Fin 1)
  rw [show (cfg0.win (1 : Fin 2)).flush (0 : Fin 1) = true from by decide, if_pos rfl] at hw
  have hr : (win0_1.blk (0 : Fin 1)).view.read (Elt F) (finalA m ρ c (1 : Fin 2)) = outAt m ρ c :=
    (congrArg _ hw).trans (View.read_write_univ _ _)
  exact (Memref.read_access_unit_zero (Elt F) main_v1 (funext fun a => by fin_cases a <;> decide)
    (fun a => by fin_cases a <;> decide) _).symm.trans hr

end Arrays

/-! ## The sum of the four blocks -/

/-- Which of the four row blocks a device holds: its coordinate along the last axis of the mesh. -/
def rowOf (c : Dev nD) : Fin 4 := ⟨c.val % 4, Nat.mod_lt _ (by decide)⟩

/-- Row block `b` of the whole input. -/
def rowBlock {α : Type} (X : (⟨2, ![1024, 256]⟩ : Shape).Idx → α) (b : Fin 4) (i : S256x256.Idx) : α :=
  X (ix2 ⟨b.val * 256 + (i 0).val, by have := b.isLt; have h : (i 0).val < 256 := (i 0).isLt; omega⟩ ⟨(i 1).val, (i 1).isLt⟩)

/-- The block the mesh gives device `c` is row block `rowOf c`. -/
theorem blockN_eq {α : Type} (X : (⟨2, ![1024, 256]⟩ : Shape).Idx → α) (c : Dev nD) :
    Layout.blockN ⟨2, ![256, 256]⟩ ⟨2, ![1024, 256]⟩ (Layout.meshBlock [2, 2, 4] ![[2], []] c) X = rowBlock X (rowOf c) := by
  funext i
  refine congrArg X (Shape.idx_ext₂ ?_ ?_)
  · have hc : (Layout.meshBlock [2, 2, 4] ![[2], []] c (by decide) (0 : Fin 2)).val = (rowOf c).val := by revert c; decide +kernel
    exact congrArg (fun n => n * 256 + (i 0).val) hc
  · exact (congrArg (· + (i 1).val) (Nat.zero_mul 256)).trans (Nat.zero_add _)

/-- A device, its first peer, its second peer and that peer's first peer hold the four different blocks: adding them
    up pair by pair is adding up all four. -/
theorem sum_pairs (f : Fin 4 → EReal) (c : Dev nD) :
    (f (rowOf c) + f (rowOf (peer 0 c))) + (f (rowOf (peer 1 c)) + f (rowOf (peer 0 (peer 1 c)))) = ∑ b, f b := by
  have h : ∀ c : Dev nD, rowOf (peer 0 c) = ![1, 0, 3, 2] (rowOf c) ∧ rowOf (peer 1 c) = ![2, 3, 0, 1] (rowOf c) := by
    decide +kernel
  rw [(h c).1, (h (peer 1 c)).1, (h c).2, Fin.sum_univ_four]
  generalize rowOf c = r
  fin_cases r
  all_goals
    simp only [Fin.zero_eta, Fin.mk_one, Fin.reduceFinMk, Matrix.cons_val]
    abel

/-! ## Both sides -/

/-- The sum of the four row blocks of the whole input. -/
def total (X : (⟨2, ![1024, 256]⟩ : Shape).Idx → EReal) : FVec Ideal S256x256 .f32 := fun i => ∑ b : Fin 4, rowBlock X b i

/-- Row block by row block, the reference's reshaped input is the whole input. -/
theorem reshaped_apply {α : Type} (X : (⟨2, ![1024, 256]⟩ : Shape).Idx → α) (b : Fin 4) (i : S256x256.Idx) :
    shapeCast Cert.ReferenceIdeal.S4x256x256 X Cert.ReferenceIdeal.Gen.shapeCasts_S1024x256_S4x256x256
      (ix3 b ⟨(i 0).val, (i 0).isLt⟩ ⟨(i 1).val, (i 1).isLt⟩) = rowBlock X b i := by
  refine Idealize.ShloMosaic.shapeCast_apply X _ _ _ ?_
  rw [rowMajor_val2 _ 256 rfl, rowMajor_val3 _ 65536 256 rfl rfl]
  show (b.val * 256 + (i 0).val) * 256 + (i 1).val = b.val * 65536 + (i 0).val * 256 + (i 1).val
  omega

/-- The reference's value of the whole input `X`: reshaped into four blocks, added up over them, its conversions
    between formats changing nothing. -/
theorem reference_value (X : (⟨2, ![1024, 256]⟩ : Shape).Idx → EReal) :
    (extf .f32 (truncf .bf16 (Host.reduceAdd (F := Ideal) (φ := .f32)
        (extf .f32 (shapeCast Cert.ReferenceIdeal.S4x256x256 X Cert.ReferenceIdeal.Gen.shapeCasts_S1024x256_S4x256x256 :
          FVec Ideal Cert.ReferenceIdeal.S4x256x256 .bf16) Cert.ReferenceIdeal.Gen.bitsLt_bf16_f32)
        (constant Cert.ReferenceIdeal.S_ .f32 0x00000000#32) Cert.ReferenceIdeal.Gen.reducesTo_S4x256x256_S256x256_d0
        Cert.ReferenceIdeal.Gen.h_S_) Cert.ReferenceIdeal.Gen.bitsLt_bf16_f32) Cert.ReferenceIdeal.Gen.bitsLt_bf16_f32
      : FVec Ideal S256x256 .f32) = total X := by
  funext i
  rw [extf_apply, truncf_apply, Host.reduceAdd_apply, Ideal.hostReduceAdd_def, Ideal.hostReduceAdd_r3_a0]
  refine Eq.trans ?_ (Finset.sum_congr rfl fun b _ => reshaped_apply X b i)
  exact (congrArg (· + _) Ideal.ofBits_zero_f32).trans (zero_add _)

/-- On every device the exchange's result is the sum of the four row blocks of the whole input `X`, when each device's
    input array is its block of `X`. -/
theorem outAt_value (m : (ℓ : Loc nD τ sig) → Buf (Elt Ideal) ℓ) (ρ : Dev nD → PrngReg)
    (X : (⟨2, ![1024, 256]⟩ : Shape).Idx → EReal)
    (hX : ∀ c : Dev nD, m ((c : Thread nD τ).loc main_arg0)
      = Layout.blockN ⟨2, ![256, 256]⟩ ⟨2, ![1024, 256]⟩ (Layout.meshBlock [2, 2, 4] ![[2], []] c) X)
    (c : Dev nD) : outAt m ρ c = total X := by
  have hx : ∀ d : Dev nD, xstg m ρ d = rowBlock X (rowOf d) := fun d =>
    (xstg_eq m ρ d).trans ((hX d).trans (blockN_eq X d))
  funext i
  show (xstg m ρ c i + xstg m ρ (peer 0 c) i) + (xstg m ρ (peer 1 c) i + xstg m ρ (peer 0 (peer 1 c)) i) = _
  rw [hx, hx, hx, hx]
  exact sum_pairs (fun b => rowBlock X b i) c

end Cert.Exchange

end
-- ==== Proof.lean ====
/-
# The proof of the claims

The kernel's run (`Exchange.run_main`) gives its frames, bit-exact and ideal; the reference's generated run gives the
reference's; and the two results are compared in `Exchange.outAt_value` and `Exchange.reference_value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's input and semaphores after a run, for any float values. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono
    (fun _ h => ⟨fun c => (h.1 c (0 : Fin 2)).trans (Exchange.finalA_arg m ρ c), h.2⟩) (Exchange.run_main m ρ)

/-- The kernel and its ideal reading are the same program: the same bodies, entry by entry of the table. -/
theorem bodies_eq {F : FTy → Type} [FloatOps F] : Cert.Kernel.defs₀ (F := F) = Cert.KernelIdeal.defs₀ :=
  congrArg Defs.onTc (funext fun l => match l with | ⟨0, _⟩ => rfl)

/-- So they have the same table of calls. -/
theorem defs_eq {F : FTy → Type} [FloatOps F] : Cert.Kernel.defs (F := F) = Cert.KernelIdeal.defs :=
  congrArg (Pipeline.defs Cert.KernelIdeal.pcfgs) bodies_eq

/-- The kernel runs to the end, leaves its input unchanged and every semaphore at zero. -/
theorem frame_kernel : Cert.quiescent_Kernel := by
  intro m ρ _
  rw [defs_eq]
  exact frame (F := Bits) m ρ

/-- So does the kernel read with floats as extended reals. -/
theorem frame_ideal : Cert.quiescent_KernelIdeal := fun m ρ _ => frame (F := Ideal) m ρ

/-- And so does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With floats as extended reals, every device's result is the reference's: the sum of the four row blocks. -/
theorem values : Cert.algebraic_KernelIdeal_ReferenceIdeal := fun m ρ m' ρ' _ hX =>
  ⟨Exchange.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Exchange.finalA_out m ρ c)).trans (Exchange.outAt_value m ρ _ hX c),
        (h.1 c (0 : Fin 2)).trans (Exchange.finalA_arg m ρ c)⟩) (Exchange.run_main (F := Ideal) m ρ),
    (θ_run Cert.ReferenceIdeal.defs _ _).mono (fun _ h => ⟨(h 0).1.trans (Exchange.reference_value _), (h 0).2⟩)
      (Cert.ReferenceIdeal.Value.run (F := Ideal) m' ρ')⟩

/-- All the claims together. -/
theorem claim : Cert.Claim :=
  ⟨Cert.Kernel.Gen.facts, Cert.KernelIdeal.Gen.facts, Cert.ReferenceIdeal.Gen.facts,
    frame_kernel, frame_ideal, frame_reference, trivial, values⟩

end Cert.Proof

end
